-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S4096x200x64 : Shape := ⟨3, ![4096, 200, 64]⟩
abbrev S1000000x1 : Shape := ⟨2, ![1000000, 1]⟩
abbrev S1000000 : Shape := ⟨1, ![1000000]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S256x2x1600 : Shape := ⟨3, ![256, 2, 1600]⟩
abbrev S256x1600x2 : Shape := ⟨3, ![256, 1600, 2]⟩
abbrev S1x1600x2 : Shape := ⟨3, ![1, 1600, 2]⟩
abbrev S16x200x64 : Shape := ⟨3, ![16, 200, 64]⟩
abbrev S1600x128 : Shape := ⟨2, ![1600, 128]⟩
abbrev S1600x2 : Shape := ⟨2, ![1600, 2]⟩
abbrev S1600x1 : Shape := ⟨2, ![1600, 1]⟩
abbrev S1600x64 : Shape := ⟨2, ![1600, 64]⟩
abbrev S8x200x64 : Shape := ⟨3, ![8, 200, 64]⟩

abbrev nBuf : Space → Nat
  | .hbm => 29
  | .vmem => 4
  | .smem => 0
  | _ => 0

abbrev bufTy : (tb : Table) → Fin (tcTables nBuf tb) → BufTy
  | .hbm, ⟨0, _⟩ => ⟨S4096x200, .i32⟩
  | .hbm, ⟨1, _⟩ => ⟨S4096x200x64, .f32⟩
  | .hbm, ⟨2, _⟩ => ⟨S1000000x1, .f32⟩
  | .hbm, ⟨3, _⟩ => ⟨S1000000, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200, .f32⟩
  | .hbm, ⟨23, _⟩ => ⟨S_, .f32⟩
  | .hbm, ⟨24, _⟩ => ⟨S4096x200, .f32⟩
  | .hbm, ⟨25, _⟩ => ⟨S4096x200, .f32⟩
  | .hbm, ⟨26, _⟩ => ⟨S256x2x1600, .f32⟩
  | .hbm, ⟨27, _⟩ => ⟨S256x1600x2, .f32⟩
  | .hbm, ⟨28, _⟩ => ⟨S4096x200x64, .f32⟩
  | .local _ .vmem, ⟨0, _⟩ => ⟨S1x1600x2, .f32⟩
  | .local _ .vmem, ⟨1, _⟩ => ⟨S1x1600x2, .f32⟩
  | .local _ .vmem, ⟨2, _⟩ => ⟨S16x200x64, .f32⟩
  | .local _ .vmem, ⟨3, _⟩ => ⟨S16x200x64, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1600x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x200 : Shape := ⟨2, ![4096, 200]⟩
abbrev S4096x200x64 : Shape := ⟨3, ![4096, 200, 64]⟩
abbrev S1000000x1 : Shape := ⟨2, ![1000000, 1]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S2 : Shape := ⟨1, ![2]⟩

abbrev nBuf : Space → Nat
  | .hbm => 408
  | .vmem => 0
  | .smem => 0
  | _ => 0

abbrev hbmTy0_0 (i : Nat) : BufTy := match i % 128 with
  | 0 => ⟨S4096x200, .i32⟩
  | 1 => ⟨S4096x200x64, .f32⟩
  | 2 => ⟨S1000000x1, .f32⟩
  | 3 => ⟨S_, .i32⟩
  | 4 => ⟨S4096x200, .i32⟩
  | 5 => ⟨S4096x200, .i1⟩
  | 6 => ⟨S_, .i32⟩
  | 7 => ⟨S4096x200, .i32⟩
  | 8 => ⟨S4096x200, .i32⟩
  | 9 => ⟨S4096x200, .i32⟩
  | 10 => ⟨S4096x200x1, .i32⟩
  | 11 => ⟨S1, .i32⟩
  | 12 => ⟨S_, .i32⟩
  | 13 => ⟨S4096x200x1, .i32⟩
  | 14 => ⟨S4096x200x1, .i1⟩
  | 15 => ⟨S1x1x1, .i32⟩
  | 16 => ⟨S4096x200x1, .i32⟩
  | 17 => ⟨S4096x200x1, .i1⟩
  | 18 => ⟨S4096x200x1, .i1⟩
  | 19 => ⟨S_, .i1⟩
  | 20 => ⟨S4096x200, .i1⟩
  | 21 => ⟨S4096x200x1, .f32⟩
  | 22 => ⟨S4096x200x1, .i1⟩
  | 23 => ⟨S_, .f32⟩
  | 24 => ⟨S4096x200x1, .f32⟩
  | 25 => ⟨S4096x200x1, .f32⟩
  | 26 => ⟨S4096x200, .f32⟩
  | 27 => ⟨S4096x200, .f32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S_, .f32⟩
  | 39 => ⟨S_, .f32⟩
  | 40 => ⟨S_, .f32⟩
  | 41 => ⟨S_, .f32⟩
  | 42 => ⟨S1x1x1, .f32⟩
  | 43 => ⟨S1x1x1, .f32⟩
  | 44 => ⟨S1, .i32⟩
  | 45 => ⟨S_, .i32⟩
  | 46 => ⟨S1, .i32⟩
  | 47 => ⟨S_, .i32⟩
  | 48 => ⟨S4096x200x64, .i64⟩
  | 49 => ⟨S4096x200x64, .i64⟩
  | 50 => ⟨S4096x200x64, .i64⟩
  | 51 => ⟨S_, .i64⟩
  | 52 => ⟨S4096x200x64, .i64⟩
  | 53 => ⟨S4096x200x64, .i64⟩
  | 54 => ⟨S_, .i64⟩
  | 55 => ⟨S4096x200x64, .i64⟩
  | 56 => ⟨S4096x200x64, .i64⟩
  | 57 => ⟨S_, .i64⟩
  | 58 => ⟨S4096x200x64, .i64⟩
  | 59 => ⟨S4096x200x64, .i64⟩
  | 60 => ⟨S4096x200x64, .i64⟩
  | 61 => ⟨S4096x200x64, .i64⟩
  | 62 => ⟨S_, .i64⟩
  | 63 => ⟨S4096x200x64, .i64⟩
  | 64 => ⟨S4096x200x64, .i64⟩
  | 65 => ⟨S4096x200x64, .i32⟩
  | 66 => ⟨S4096x200x64, .i32⟩
  | 67 => ⟨S_, .i32⟩
  | 68 => ⟨S_, .i32⟩
  | 69 => ⟨S_, .i32⟩
  | 70 => ⟨S4096x200x64, .i32⟩
  | 71 => ⟨S4096x200x64, .i32⟩
  | 72 => ⟨S4096x200x64, .i32⟩
  | 73 => ⟨S4096x200x64, .i32⟩
  | 74 => ⟨S4096x200x64, .i32⟩
  | 75 => ⟨S_, .i32⟩
  | 76 => ⟨S4096x200x64, .i32⟩
  | 77 => ⟨S4096x200x64, .i32⟩
  | 78 => ⟨S_, .i32⟩
  | 79 => ⟨S4096x200x64, .i32⟩
  | 80 => ⟨S4096x200x64, .i32⟩
  | 81 => ⟨S4096x200x64, .i32⟩
  | 82 => ⟨S4096x200x64, .i32⟩
  | 83 => ⟨S4096x200x64, .i32⟩
  | 84 => ⟨S_, .i32⟩
  | 85 => ⟨S4096x200x64, .i32⟩
  | 86 => ⟨S4096x200x64, .i32⟩
  | 87 => ⟨S_, .i32⟩
  | 88 => ⟨S4096x200x64, .i32⟩
  | 89 => ⟨S4096x200x64, .i32⟩
  | 90 => ⟨S4096x200x64, .i32⟩
  | 91 => ⟨S4096x200x64, .i32⟩
  | 92 => ⟨S4096x200x64, .i32⟩
  | 93 => ⟨S_, .i32⟩
  | 94 => ⟨S4096x200x64, .i32⟩
  | 95 => ⟨S4096x200x64, .i32⟩
  | 96 => ⟨S_, .i32⟩
  | 97 => ⟨S4096x200x64, .i32⟩
  | 98 => ⟨S4096x200x64, .i32⟩
  | 99 => ⟨S4096x200x64, .i32⟩
  | 100 => ⟨S4096x200x64, .i32⟩
  | 101 => ⟨S4096x200x64, .i32⟩
  | 102 => ⟨S_, .i32⟩
  | 103 => ⟨S4096x200x64, .i32⟩
  | 104 => ⟨S4096x200x64, .i32⟩
  | 105 => ⟨S_, .i32⟩
  | 106 => ⟨S4096x200x64, .i32⟩
  | 107 => ⟨S4096x200x64, .i32⟩
  | 108 => ⟨S4096x200x64, .i32⟩
  | 109 => ⟨S4096x200x64, .i32⟩
  | 110 => ⟨S4096x200x64, .i32⟩
  | 111 => ⟨S4096x200x64, .i32⟩
  | 112 => ⟨S4096x200x64, .i32⟩
  | 113 => ⟨S4096x200x64, .i32⟩
  | 114 => ⟨S_, .i32⟩
  | 115 => ⟨S4096x200x64, .i32⟩
  | 116 => ⟨S4096x200x64, .i32⟩
  | 117 => ⟨S4096x200x64, .i32⟩
  | 118 => ⟨S_, .i32⟩
  | 119 => ⟨S4096x200x64, .i32⟩
  | 120 => ⟨S4096x200x64, .i32⟩
  | 121 => ⟨S_, .i32⟩
  | 122 => ⟨S4096x200x64, .i32⟩
  | 123 => ⟨S4096x200x64, .i32⟩
  | 124 => ⟨S4096x200x64, .i32⟩
  | 125 => ⟨S4096x200x64, .i32⟩
  | 126 => ⟨S4096x200x64, .i32⟩
  | 127 => ⟨S_, .i32⟩
  | _ => ⟨S4096x200, .i32⟩

abbrev hbmTy0_1 (i : Nat) : BufTy := match i % 128 with
  | 0 => ⟨S4096x200x64, .i32⟩
  | 1 => ⟨S4096x200x64, .i32⟩
  | 2 => ⟨S_, .i32⟩
  | 3 => ⟨S4096x200x64, .i32⟩
  | 4 => ⟨S4096x200x64, .i32⟩
  | 5 => ⟨S4096x200x64, .i32⟩
  | 6 => ⟨S4096x200x64, .i32⟩
  | 7 => ⟨S4096x200x64, .i32⟩
  | 8 => ⟨S_, .i32⟩
  | 9 => ⟨S4096x200x64, .i32⟩
  | 10 => ⟨S4096x200x64, .i32⟩
  | 11 => ⟨S_, .i32⟩
  | 12 => ⟨S4096x200x64, .i32⟩
  | 13 => ⟨S4096x200x64, .i32⟩
  | 14 => ⟨S4096x200x64, .i32⟩
  | 15 => ⟨S4096x200x64, .i32⟩
  | 16 => ⟨S4096x200x64, .i32⟩
  | 17 => ⟨S_, .i32⟩
  | 18 => ⟨S4096x200x64, .i32⟩
  | 19 => ⟨S4096x200x64, .i32⟩
  | 20 => ⟨S_, .i32⟩
  | 21 => ⟨S4096x200x64, .i32⟩
  | 22 => ⟨S4096x200x64, .i32⟩
  | 23 => ⟨S4096x200x64, .i32⟩
  | 24 => ⟨S4096x200x64, .i32⟩
  | 25 => ⟨S4096x200x64, .i32⟩
  | 26 => ⟨S4096x200x64, .i32⟩
  | 27 => ⟨S4096x200x64, .i32⟩
  | 28 => ⟨S4096x200x64, .i32⟩
  | 29 => ⟨S_, .i32⟩
  | 30 => ⟨S4096x200x64, .i32⟩
  | 31 => ⟨S4096x200x64, .i32⟩
  | 32 => ⟨S4096x200x64, .i32⟩
  | 33 => ⟨S_, .i32⟩
  | 34 => ⟨S4096x200x64, .i32⟩
  | 35 => ⟨S4096x200x64, .i32⟩
  | 36 => ⟨S_, .i32⟩
  | 37 => ⟨S4096x200x64, .i32⟩
  | 38 => ⟨S4096x200x64, .i32⟩
  | 39 => ⟨S4096x200x64, .i32⟩
  | 40 => ⟨S4096x200x64, .i32⟩
  | 41 => ⟨S4096x200x64, .i32⟩
  | 42 => ⟨S_, .i32⟩
  | 43 => ⟨S4096x200x64, .i32⟩
  | 44 => ⟨S4096x200x64, .i32⟩
  | 45 => ⟨S_, .i32⟩
  | 46 => ⟨S4096x200x64, .i32⟩
  | 47 => ⟨S4096x200x64, .i32⟩
  | 48 => ⟨S4096x200x64, .i32⟩
  | 49 => ⟨S4096x200x64, .i32⟩
  | 50 => ⟨S4096x200x64, .i32⟩
  | 51 => ⟨S_, .i32⟩
  | 52 => ⟨S4096x200x64, .i32⟩
  | 53 => ⟨S4096x200x64, .i32⟩
  | 54 => ⟨S_, .i32⟩
  | 55 => ⟨S4096x200x64, .i32⟩
  | 56 => ⟨S4096x200x64, .i32⟩
  | 57 => ⟨S4096x200x64, .i32⟩
  | 58 => ⟨S4096x200x64, .i32⟩
  | 59 => ⟨S4096x200x64, .i32⟩
  | 60 => ⟨S_, .i32⟩
  | 61 => ⟨S4096x200x64, .i32⟩
  | 62 => ⟨S4096x200x64, .i32⟩
  | 63 => ⟨S_, .i32⟩
  | 64 => ⟨S4096x200x64, .i32⟩
  | 65 => ⟨S4096x200x64, .i32⟩
  | 66 => ⟨S4096x200x64, .i32⟩
  | 67 => ⟨S4096x200x64, .i32⟩
  | 68 => ⟨S4096x200x64, .i32⟩
  | 69 => ⟨S4096x200x64, .i32⟩
  | 70 => ⟨S4096x200x64, .i32⟩
  | 71 => ⟨S4096x200x64, .i32⟩
  | 72 => ⟨S_, .i32⟩
  | 73 => ⟨S4096x200x64, .i32⟩
  | 74 => ⟨S4096x200x64, .i32⟩
  | 75 => ⟨S4096x200x64, .i32⟩
  | 76 => ⟨S_, .i32⟩
  | 77 => ⟨S4096x200x64, .i32⟩
  | 78 => ⟨S4096x200x64, .i32⟩
  | 79 => ⟨S_, .i32⟩
  | 80 => ⟨S4096x200x64, .i32⟩
  | 81 => ⟨S4096x200x64, .i32⟩
  | 82 => ⟨S4096x200x64, .i32⟩
  | 83 => ⟨S4096x200x64, .i32⟩
  | 84 => ⟨S4096x200x64, .i32⟩
  | 85 => ⟨S_, .i32⟩
  | 86 => ⟨S4096x200x64, .i32⟩
  | 87 => ⟨S4096x200x64, .i32⟩
  | 88 => ⟨S_, .i32⟩
  | 89 => ⟨S4096x200x64, .i32⟩
  | 90 => ⟨S4096x200x64, .i32⟩
  | 91 => ⟨S4096x200x64, .i32⟩
  | 92 => ⟨S4096x200x64, .i32⟩
  | 93 => ⟨S4096x200x64, .i32⟩
  | 94 => ⟨S_, .i32⟩
  | 95 => ⟨S4096x200x64, .i32⟩
  | 96 => ⟨S4096x200x64, .i32⟩
  | 97 => ⟨S_, .i32⟩
  | 98 => ⟨S4096x200x64, .i32⟩
  | 99 => ⟨S4096x200x64, .i32⟩
  | 100 => ⟨S4096x200x64, .i32⟩
  | 101 => ⟨S4096x200x64, .i32⟩
  | 102 => ⟨S4096x200x64, .i32⟩
  | 103 => ⟨S_, .i32⟩
  | 104 => ⟨S4096x200x64, .i32⟩
  | 105 => ⟨S4096x200x64, .i32⟩
  | 106 => ⟨S_, .i32⟩
  | 107 => ⟨S4096x200x64, .i32⟩
  | 108 => ⟨S4096x200x64, .i32⟩
  | 109 => ⟨S4096x200x64, .i32⟩
  | 110 => ⟨S4096x200x64, .i32⟩
  | 111 => ⟨S4096x200x64, .i32⟩
  | 112 => ⟨S4096x200x64, .i32⟩
  | 113 => ⟨S4096x200x64, .i32⟩
  | 114 => ⟨S4096x200x64, .i32⟩
  | 115 => ⟨S_, .i32⟩
  | 116 => ⟨S4096x200x64, .i32⟩
  | 117 => ⟨S4096x200x64, .i32⟩
  | 118 => ⟨S4096x200x64, .i32⟩
  | 119 => ⟨S_, .i32⟩
  | 120 => ⟨S4096x200x64, .i32⟩
  | 121 => ⟨S4096x200x64, .i32⟩
  | 122 => ⟨S_, .i32⟩
  | 123 => ⟨S4096x200x64, .i32⟩
  | 124 => ⟨S4096x200x64, .i32⟩
  | 125 => ⟨S4096x200x64, .i32⟩
  | 126 => ⟨S4096x200x64, .i32⟩
  | 127 => ⟨S4096x200x64, .i32⟩
  | _ => ⟨S4096x200, .i32⟩

abbrev hbmTy0_2 (i : Nat) : BufTy := match i % 128 with
  | 0 => ⟨S_, .i32⟩
  | 1 => ⟨S4096x200x64, .i32⟩
  | 2 => ⟨S4096x200x64, .i32⟩
  | 3 => ⟨S_, .i32⟩
  | 4 => ⟨S4096x200x64, .i32⟩
  | 5 => ⟨S4096x200x64, .i32⟩
  | 6 => ⟨S4096x200x64, .i32⟩
  | 7 => ⟨S4096x200x64, .i32⟩
  | 8 => ⟨S4096x200x64, .i32⟩
  | 9 => ⟨S_, .i32⟩
  | 10 => ⟨S4096x200x64, .i32⟩
  | 11 => ⟨S4096x200x64, .i32⟩
  | 12 => ⟨S_, .i32⟩
  | 13 => ⟨S4096x200x64, .i32⟩
  | 14 => ⟨S4096x200x64, .i32⟩
  | 15 => ⟨S4096x200x64, .i32⟩
  | 16 => ⟨S4096x200x64, .i32⟩
  | 17 => ⟨S4096x200x64, .i32⟩
  | 18 => ⟨S_, .i32⟩
  | 19 => ⟨S4096x200x64, .i32⟩
  | 20 => ⟨S4096x200x64, .i32⟩
  | 21 => ⟨S_, .i32⟩
  | 22 => ⟨S4096x200x64, .i32⟩
  | 23 => ⟨S4096x200x64, .i32⟩
  | 24 => ⟨S4096x200x64, .i32⟩
  | 25 => ⟨S4096x200x64, .i32⟩
  | 26 => ⟨S4096x200x64, .i32⟩
  | 27 => ⟨S4096x200x64, .i32⟩
  | 28 => ⟨S4096x200x64, .i32⟩
  | 29 => ⟨S4096x200x64, .i32⟩
  | 30 => ⟨S_, .i32⟩
  | 31 => ⟨S4096x200x64, .i32⟩
  | 32 => ⟨S4096x200x64, .i32⟩
  | 33 => ⟨S4096x200x64, .i32⟩
  | 34 => ⟨S_, .i32⟩
  | 35 => ⟨S4096x200x64, .i32⟩
  | 36 => ⟨S4096x200x64, .i32⟩
  | 37 => ⟨S_, .i32⟩
  | 38 => ⟨S4096x200x64, .i32⟩
  | 39 => ⟨S4096x200x64, .i32⟩
  | 40 => ⟨S4096x200x64, .f32⟩
  | 41 => ⟨S_, .f32⟩
  | 42 => ⟨S4096x200x64, .f32⟩
  | 43 => ⟨S4096x200x64, .f32⟩
  | 44 => ⟨S1x1x1, .f32⟩
  | 45 => ⟨S4096x200x64, .f32⟩
  | 46 => ⟨S4096x200x64, .f32⟩
  | 47 => ⟨S4096x200x64, .f32⟩
  | 48 => ⟨S4096x200x64, .f32⟩
  | 49 => ⟨S4096x200x64, .f32⟩
  | 50 => ⟨S4096x200x64, .f32⟩
  | 51 => ⟨S_, .f32⟩
  | 52 => ⟨S4096x200x64, .f32⟩
  | 53 => ⟨S4096x200x64, .f32⟩
  | 54 => ⟨S_, .f32⟩
  | 55 => ⟨S4096x200x64, .f32⟩
  | 56 => ⟨S4096x200x64, .f32⟩
  | 57 => ⟨S_, .f32⟩
  | 58 => ⟨S4096x200x64, .f32⟩
  | 59 => ⟨S4096x200x64, .f32⟩
  | 60 => ⟨S4096x200x64, .f32⟩
  | 61 => ⟨S4096x200x64, .f32⟩
  | 62 => ⟨S4096x200x64, .f32⟩
  | 63 => ⟨S4096x200x64, .f32⟩
  | 64 => ⟨S_, .f32⟩
  | 65 => ⟨S4096x200x64, .f32⟩
  | 66 => ⟨S4096x200x64, .i1⟩
  | 67 => ⟨S_, .f32⟩
  | 68 => ⟨S4096x200x64, .f32⟩
  | 69 => ⟨S4096x200x64, .f32⟩
  | 70 => ⟨S4096x200x64, .f32⟩
  | 71 => ⟨S_, .f32⟩
  | 72 => ⟨S4096x200x64, .f32⟩
  | 73 => ⟨S4096x200x64, .f32⟩
  | 74 => ⟨S4096x200x64, .f32⟩
  | 75 => ⟨S_, .f32⟩
  | 76 => ⟨S_, .f32⟩
  | 77 => ⟨S4096x200x64, .f32⟩
  | 78 => ⟨S4096x200x64, .f32⟩
  | 79 => ⟨S4096x200x64, .f32⟩
  | 80 => ⟨S4096x200x64, .f32⟩
  | 81 => ⟨S_, .f32⟩
  | 82 => ⟨S_, .f32⟩
  | 83 => ⟨S4096x200x64, .f32⟩
  | 84 => ⟨S4096x200x64, .f32⟩
  | 85 => ⟨S4096x200x64, .f32⟩
  | 86 => ⟨S4096x200x64, .f32⟩
  | 87 => ⟨S4096x200x64, .f32⟩
  | 88 => ⟨S_, .f32⟩
  | 89 => ⟨S_, .f32⟩
  | 90 => ⟨S4096x200x64, .f32⟩
  | 91 => ⟨S4096x200x64, .f32⟩
  | 92 => ⟨S4096x200x64, .f32⟩
  | 93 => ⟨S4096x200x64, .f32⟩
  | 94 => ⟨S4096x200x64, .f32⟩
  | 95 => ⟨S_, .f32⟩
  | 96 => ⟨S_, .f32⟩
  | 97 => ⟨S4096x200x64, .f32⟩
  | 98 => ⟨S4096x200x64, .f32⟩
  | 99 => ⟨S4096x200x64, .f32⟩
  | 100 => ⟨S4096x200x64, .f32⟩
  | 101 => ⟨S4096x200x64, .f32⟩
  | 102 => ⟨S_, .f32⟩
  | 103 => ⟨S_, .f32⟩
  | 104 => ⟨S4096x200x64, .f32⟩
  | 105 => ⟨S4096x200x64, .f32⟩
  | 106 => ⟨S4096x200x64, .f32⟩
  | 107 => ⟨S4096x200x64, .f32⟩
  | 108 => ⟨S4096x200x64, .f32⟩
  | 109 => ⟨S_, .f32⟩
  | 110 => ⟨S_, .f32⟩
  | 111 => ⟨S4096x200x64, .f32⟩
  | 112 => ⟨S4096x200x64, .f32⟩
  | 113 => ⟨S4096x200x64, .f32⟩
  | 114 => ⟨S4096x200x64, .f32⟩
  | 115 => ⟨S4096x200x64, .f32⟩
  | 116 => ⟨S_, .f32⟩
  | 117 => ⟨S_, .f32⟩
  | 118 => ⟨S4096x200x64, .f32⟩
  | 119 => ⟨S4096x200x64, .f32⟩
  | 120 => ⟨S4096x200x64, .f32⟩
  | 121 => ⟨S4096x200x64, .f32⟩
  | 122 => ⟨S4096x200x64, .f32⟩
  | 123 => ⟨S_, .f32⟩
  | 124 => ⟨S_, .f32⟩
  | 125 => ⟨S4096x200x64, .f32⟩
  | 126 => ⟨S4096x200x64, .f32⟩
  | 127 => ⟨S4096x200x64, .f32⟩
  | _ => ⟨S4096x200, .i32⟩

abbrev hbmTy0_3 (i : Nat) : BufTy := match i % 128 with
  | 0 => ⟨S4096x200x64, .f32⟩
  | 1 => ⟨S4096x200x64, .f32⟩
  | 2 => ⟨S_, .f32⟩
  | 3 => ⟨S_, .f32⟩
  | 4 => ⟨S4096x200x64, .f32⟩
  | 5 => ⟨S4096x200x64, .f32⟩
  | 6 => ⟨S4096x200x64, .f32⟩
  | 7 => ⟨S4096x200x64, .f32⟩
  | 8 => ⟨S4096x200x64, .f32⟩
  | 9 => ⟨S4096x200x64, .f32⟩
  | 10 => ⟨S_, .f32⟩
  | 11 => ⟨S4096x200x64, .f32⟩
  | 12 => ⟨S4096x200x64, .i1⟩
  | 13 => ⟨S_, .f32⟩
  | 14 => ⟨S4096x200x64, .f32⟩
  | 15 => ⟨S4096x200x64, .f32⟩
  | 16 => ⟨S4096x200x64, .f32⟩
  | 17 => ⟨S4096x200x64, .f32⟩
  | 18 => ⟨S_, .f32⟩
  | 19 => ⟨S4096x200x64, .f32⟩
  | 20 => ⟨S4096x200x64, .f32⟩
  | 21 => ⟨S4096x200x1, .f32⟩
  | 22 => ⟨S4096x200x64, .f32⟩
  | 23 => ⟨S4096x200x64, .f32⟩
  | _ => ⟨S4096x200, .i32⟩

abbrev hbmTy (i : Nat) : BufTy := match i / 128 with
  | 0 => hbmTy0_0 i
  | 1 => hbmTy0_1 i
  | 2 => hbmTy0_2 i
  | 3 => hbmTy0_3 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c : Ref sig .tc := ⟨.hbm, 51, rfl⟩
abbrev main_call1_v11 : Ref sig .tc := ⟨.hbm, 52, rfl⟩
abbrev main_call1_v12 : Ref sig .tc := ⟨.hbm, 53, rfl⟩
abbrev main_call1_c_0 : Ref sig .tc := ⟨.hbm, 54, rfl⟩
abbrev main_call1_v13 : Ref sig .tc := ⟨.hbm, 55, rfl⟩
abbrev main_call1_v14 : Ref sig .tc := ⟨.hbm, 56, rfl⟩
abbrev main_call1_c_1 : Ref sig .tc := ⟨.hbm, 57, rfl⟩
abbrev main_call1_v15 : Ref sig .tc := ⟨.hbm, 58, rfl⟩
abbrev main_call1_v16 : Ref sig .tc := ⟨.hbm, 59, rfl⟩
abbrev main_call1_v17 : Ref sig .tc := ⟨.hbm, 60, rfl⟩
abbrev main_call1_v18 : Ref sig .tc := ⟨.hbm, 61, rfl⟩
abbrev main_call1_c_2 : Ref sig .tc := ⟨.hbm, 62, rfl⟩
abbrev main_call1_v19 : Ref sig .tc := ⟨.hbm, 63, rfl⟩
abbrev main_call1_v20 : Ref sig .tc := ⟨.hbm, 64, rfl⟩
abbrev main_call1_v21 : Ref sig .tc := ⟨.hbm, 65, rfl⟩
abbrev main_call1_v22 : Ref sig .tc := ⟨.hbm, 66, rfl⟩
abbrev main_call1_call0_v0 : Ref sig .tc := ⟨.hbm, 67, rfl⟩
abbrev main_call1_call0_c : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_c_0 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_c_1 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_call0_v12 : Ref sig .tc := ⟨.hbm, 82, rfl⟩
abbrev main_call1_call0_v13 : Ref sig .tc := ⟨.hbm, 83, rfl⟩
abbrev main_call1_call0_c_2 : Ref sig .tc := ⟨.hbm, 84, rfl⟩
abbrev main_call1_call0_v14 : Ref sig .tc := ⟨.hbm, 85, rfl⟩
abbrev main_call1_call0_v15 : Ref sig .tc := ⟨.hbm, 86, rfl⟩
abbrev main_call1_call0_c_3 : Ref sig .tc := ⟨.hbm, 87, rfl⟩
abbrev main_call1_call0_v16 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_v19 : Ref sig .tc := ⟨.hbm, 91, rfl⟩
abbrev main_call1_call0_v20 : Ref sig .tc := ⟨.hbm, 92, rfl⟩
abbrev main_call1_call0_c_4 : Ref sig .tc := ⟨.hbm, 93, rfl⟩
abbrev main_call1_call0_v21 : Ref sig .tc := ⟨.hbm, 94, rfl⟩
abbrev main_call1_call0_v22 : Ref sig .tc := ⟨.hbm, 95, rfl⟩
abbrev main_call1_call0_c_5 : Ref sig .tc := ⟨.hbm, 96, rfl⟩
abbrev main_call1_call0_v23 : Ref sig .tc := ⟨.hbm, 97, rfl⟩
abbrev main_call1_call0_v24 : Ref sig .tc := ⟨.hbm, 98, rfl⟩
abbrev main_call1_call0_v25 : Ref sig .tc := ⟨.hbm, 99, rfl⟩
abbrev main_call1_call0_v26 : Ref sig .tc := ⟨.hbm, 100, rfl⟩
abbrev main_call1_call0_v27 : Ref sig .tc := ⟨.hbm, 101, rfl⟩
abbrev main_call1_call0_c_6 : Ref sig .tc := ⟨.hbm, 102, rfl⟩
abbrev main_call1_call0_v28 : Ref sig .tc := ⟨.hbm, 103, rfl⟩
abbrev main_call1_call0_v29 : Ref sig .tc := ⟨.hbm, 104, rfl⟩
abbrev main_call1_call0_c_7 : Ref sig .tc := ⟨.hbm, 105, rfl⟩
abbrev main_call1_call0_v30 : Ref sig .tc := ⟨.hbm, 106, rfl⟩
abbrev main_call1_call0_v31 : Ref sig .tc := ⟨.hbm, 107, rfl⟩
abbrev main_call1_call0_v32 : Ref sig .tc := ⟨.hbm, 108, rfl⟩
abbrev main_call1_call0_v33 : Ref sig .tc := ⟨.hbm, 109, rfl⟩
abbrev main_call1_call0_v34 : Ref sig .tc := ⟨.hbm, 110, rfl⟩
abbrev main_call1_call0_v35 : Ref sig .tc := ⟨.hbm, 111, rfl⟩
abbrev main_call1_call0_v36 : Ref sig .tc := ⟨.hbm, 112, rfl⟩
abbrev main_call1_call0_v37 : Ref sig .tc := ⟨.hbm, 113, rfl⟩
abbrev main_call1_call0_c_8 : Ref sig .tc := ⟨.hbm, 114, rfl⟩
abbrev main_call1_call0_v38 : Ref sig .tc := ⟨.hbm, 115, rfl⟩
abbrev main_call1_call0_v39 : Ref sig .tc := ⟨.hbm, 116, rfl⟩
abbrev main_call1_call0_v40 : Ref sig .tc := ⟨.hbm, 117, rfl⟩
abbrev main_call1_call0_c_9 : Ref sig .tc := ⟨.hbm, 118, rfl⟩
abbrev main_call1_call0_v41 : Ref sig .tc := ⟨.hbm, 119, rfl⟩
abbrev main_call1_call0_v42 : Ref sig .tc := ⟨.hbm, 120, rfl⟩
abbrev main_call1_call0_c_10 : Ref sig .tc := ⟨.hbm, 121, rfl⟩
abbrev main_call1_call0_v43 : Ref sig .tc := ⟨.hbm, 122, rfl⟩
abbrev main_call1_call0_v44 : Ref sig .tc := ⟨.hbm, 123, rfl⟩
abbrev main_call1_call0_v45 : Ref sig .tc := ⟨.hbm, 124, rfl⟩
abbrev main_call1_call0_v46 : Ref sig .tc := ⟨.hbm, 125, rfl⟩
abbrev main_call1_call0_v47 : Ref sig .tc := ⟨.hbm, 126, rfl⟩
abbrev main_call1_call0_c_11 : Ref sig .tc := ⟨.hbm, 127, rfl⟩
abbrev main_call1_call0_v48 : Ref sig .tc := ⟨.hbm, 128, rfl⟩
abbrev main_call1_call0_v49 : Ref sig .tc := ⟨.hbm, 129, rfl⟩
abbrev main_call1_call0_c_12 : Ref sig .tc := ⟨.hbm, 130, rfl⟩
abbrev main_call1_call0_v50 : Ref sig .tc := ⟨.hbm, 131, rfl⟩
abbrev main_call1_call0_v51 : Ref sig .tc := ⟨.hbm, 132, rfl⟩
abbrev main_call1_call0_v52 : Ref sig .tc := ⟨.hbm, 133, rfl⟩
abbrev main_call1_call0_v53 : Ref sig .tc := ⟨.hbm, 134, rfl⟩
abbrev main_call1_call0_v54 : Ref sig .tc := ⟨.hbm, 135, rfl⟩
abbrev main_call1_call0_c_13 : Ref sig .tc := ⟨.hbm, 136, rfl⟩
abbrev main_call1_call0_v55 : Ref sig .tc := ⟨.hbm, 137, rfl⟩
abbrev main_call1_call0_v56 : Ref sig .tc := ⟨.hbm, 138, rfl⟩
abbrev main_call1_call0_c_14 : Ref sig .tc := ⟨.hbm, 139, rfl⟩
abbrev main_call1_call0_v57 : Ref sig .tc := ⟨.hbm, 140, rfl⟩
abbrev main_call1_call0_v58 : Ref sig .tc := ⟨.hbm, 141, rfl⟩
abbrev main_call1_call0_v59 : Ref sig .tc := ⟨.hbm, 142, rfl⟩
abbrev main_call1_call0_v60 : Ref sig .tc := ⟨.hbm, 143, rfl⟩
abbrev main_call1_call0_v61 : Ref sig .tc := ⟨.hbm, 144, rfl⟩
abbrev main_call1_call0_c_15 : Ref sig .tc := ⟨.hbm, 145, rfl⟩
abbrev main_call1_call0_v62 : Ref sig .tc := ⟨.hbm, 146, rfl⟩
abbrev main_call1_call0_v63 : Ref sig .tc := ⟨.hbm, 147, rfl⟩
abbrev main_call1_call0_c_16 : Ref sig .tc := ⟨.hbm, 148, rfl⟩
abbrev main_call1_call0_v64 : Ref sig .tc := ⟨.hbm, 149, rfl⟩
abbrev main_call1_call0_v65 : Ref sig .tc := ⟨.hbm, 150, rfl⟩
abbrev main_call1_call0_v66 : Ref sig .tc := ⟨.hbm, 151, rfl⟩
abbrev main_call1_call0_v67 : Ref sig .tc := ⟨.hbm, 152, rfl⟩
abbrev main_call1_call0_v68 : Ref sig .tc := ⟨.hbm, 153, rfl⟩
abbrev main_call1_call0_v69 : Ref sig .tc := ⟨.hbm, 154, rfl⟩
abbrev main_call1_call0_v70 : Ref sig .tc := ⟨.hbm, 155, rfl⟩
abbrev main_call1_call0_v71 : Ref sig .tc := ⟨.hbm, 156, rfl⟩
abbrev main_call1_call0_c_17 : Ref sig .tc := ⟨.hbm, 157, rfl⟩
abbrev main_call1_call0_v72 : Ref sig .tc := ⟨.hbm, 158, rfl⟩
abbrev main_call1_call0_v73 : Ref sig .tc := ⟨.hbm, 159, rfl⟩
abbrev main_call1_call0_v74 : Ref sig .tc := ⟨.hbm, 160, rfl⟩
abbrev main_call1_call0_c_18 : Ref sig .tc := ⟨.hbm, 161, rfl⟩
abbrev main_call1_call0_v75 : Ref sig .tc := ⟨.hbm, 162, rfl⟩
abbrev main_call1_call0_v76 : Ref sig .tc := ⟨.hbm, 163, rfl⟩
abbrev main_call1_call0_c_19 : Ref sig .tc := ⟨.hbm, 164, rfl⟩
abbrev main_call1_call0_v77 : Ref sig .tc := ⟨.hbm, 165, rfl⟩
abbrev main_call1_call0_v78 : Ref sig .tc := ⟨.hbm, 166, rfl⟩
abbrev main_call1_call0_v79 : Ref sig .tc := ⟨.hbm, 167, rfl⟩
abbrev main_call1_call0_v80 : Ref sig .tc := ⟨.hbm, 168, rfl⟩
abbrev main_call1_call0_v81 : Ref sig .tc := ⟨.hbm, 169, rfl⟩
abbrev main_call1_call0_c_20 : Ref sig .tc := ⟨.hbm, 170, rfl⟩
abbrev main_call1_call0_v82 : Ref sig .tc := ⟨.hbm, 171, rfl⟩
abbrev main_call1_call0_v83 : Ref sig .tc := ⟨.hbm, 172, rfl⟩
abbrev main_call1_call0_c_21 : Ref sig .tc := ⟨.hbm, 173, rfl⟩
abbrev main_call1_call0_v84 : Ref sig .tc := ⟨.hbm, 174, rfl⟩
abbrev main_call1_call0_v85 : Ref sig .tc := ⟨.hbm, 175, rfl⟩
abbrev main_call1_call0_v86 : Ref sig .tc := ⟨.hbm, 176, rfl⟩
abbrev main_call1_call0_v87 : Ref sig .tc := ⟨.hbm, 177, rfl⟩
abbrev main_call1_call0_v88 : Ref sig .tc := ⟨.hbm, 178, rfl⟩
abbrev main_call1_call0_c_22 : Ref sig .tc := ⟨.hbm, 179, rfl⟩
abbrev main_call1_call0_v89 : Ref sig .tc := ⟨.hbm, 180, rfl⟩
abbrev main_call1_call0_v90 : Ref sig .tc := ⟨.hbm, 181, rfl⟩
abbrev main_call1_call0_c_23 : Ref sig .tc := ⟨.hbm, 182, rfl⟩
abbrev main_call1_call0_v91 : Ref sig .tc := ⟨.hbm, 183, rfl⟩
abbrev main_call1_call0_v92 : Ref sig .tc := ⟨.hbm, 184, rfl⟩
abbrev main_call1_call0_v93 : Ref sig .tc := ⟨.hbm, 185, rfl⟩
abbrev main_call1_call0_v94 : Ref sig .tc := ⟨.hbm, 186, rfl⟩
abbrev main_call1_call0_v95 : Ref sig .tc := ⟨.hbm, 187, rfl⟩
abbrev main_call1_call0_c_24 : Ref sig .tc := ⟨.hbm, 188, rfl⟩
abbrev main_call1_call0_v96 : Ref sig .tc := ⟨.hbm, 189, rfl⟩
abbrev main_call1_call0_v97 : Ref sig .tc := ⟨.hbm, 190, rfl⟩
abbrev main_call1_call0_c_25 : Ref sig .tc := ⟨.hbm, 191, rfl⟩
abbrev main_call1_call0_v98 : Ref sig .tc := ⟨.hbm, 192, rfl⟩
abbrev main_call1_call0_v99 : Ref sig .tc := ⟨.hbm, 193, rfl⟩
abbrev main_call1_call0_v100 : Ref sig .tc := ⟨.hbm, 194, rfl⟩
abbrev main_call1_call0_v101 : Ref sig .tc := ⟨.hbm, 195, rfl⟩
abbrev main_call1_call0_v102 : Ref sig .tc := ⟨.hbm, 196, rfl⟩
abbrev main_call1_call0_v103 : Ref sig .tc := ⟨.hbm, 197, rfl⟩
abbrev main_call1_call0_v104 : Ref sig .tc := ⟨.hbm, 198, rfl⟩
abbrev main_call1_call0_v105 : Ref sig .tc := ⟨.hbm, 199, rfl⟩
abbrev main_call1_call0_c_26 : Ref sig .tc := ⟨.hbm, 200, rfl⟩
abbrev main_call1_call0_v106 : Ref sig .tc := ⟨.hbm, 201, rfl⟩
abbrev main_call1_call0_v107 : Ref sig .tc := ⟨.hbm, 202, rfl⟩
abbrev main_call1_call0_v108 : Ref sig .tc := ⟨.hbm, 203, rfl⟩
abbrev main_call1_call0_c_27 : Ref sig .tc := ⟨.hbm, 204, rfl⟩
abbrev main_call1_call0_v109 : Ref sig .tc := ⟨.hbm, 205, rfl⟩
abbrev main_call1_call0_v110 : Ref sig .tc := ⟨.hbm, 206, rfl⟩
abbrev main_call1_call0_c_28 : Ref sig .tc := ⟨.hbm, 207, rfl⟩
abbrev main_call1_call0_v111 : Ref sig .tc := ⟨.hbm, 208, rfl⟩
abbrev main_call1_call0_v112 : Ref sig .tc := ⟨.hbm, 209, rfl⟩
abbrev main_call1_call0_v113 : Ref sig .tc := ⟨.hbm, 210, rfl⟩
abbrev main_call1_call0_v114 : Ref sig .tc := ⟨.hbm, 211, rfl⟩
abbrev main_call1_call0_v115 : Ref sig .tc := ⟨.hbm, 212, rfl⟩
abbrev main_call1_call0_c_29 : Ref sig .tc := ⟨.hbm, 213, rfl⟩
abbrev main_call1_call0_v116 : Ref sig .tc := ⟨.hbm, 214, rfl⟩
abbrev main_call1_call0_v117 : Ref sig .tc := ⟨.hbm, 215, rfl⟩
abbrev main_call1_call0_c_30 : Ref sig .tc := ⟨.hbm, 216, rfl⟩
abbrev main_call1_call0_v118 : Ref sig .tc := ⟨.hbm, 217, rfl⟩
abbrev main_call1_call0_v119 : Ref sig .tc := ⟨.hbm, 218, rfl⟩
abbrev main_call1_call0_v120 : Ref sig .tc := ⟨.hbm, 219, rfl⟩
abbrev main_call1_call0_v121 : Ref sig .tc := ⟨.hbm, 220, rfl⟩
abbrev main_call1_call0_v122 : Ref sig .tc := ⟨.hbm, 221, rfl⟩
abbrev main_call1_call0_c_31 : Ref sig .tc := ⟨.hbm, 222, rfl⟩
abbrev main_call1_call0_v123 : Ref sig .tc := ⟨.hbm, 223, rfl⟩
abbrev main_call1_call0_v124 : Ref sig .tc := ⟨.hbm, 224, rfl⟩
abbrev main_call1_call0_c_32 : Ref sig .tc := ⟨.hbm, 225, rfl⟩
abbrev main_call1_call0_v125 : Ref sig .tc := ⟨.hbm, 226, rfl⟩
abbrev main_call1_call0_v126 : Ref sig .tc := ⟨.hbm, 227, rfl⟩
abbrev main_call1_call0_v127 : Ref sig .tc := ⟨.hbm, 228, rfl⟩
abbrev main_call1_call0_v128 : Ref sig .tc := ⟨.hbm, 229, rfl⟩
abbrev main_call1_call0_v129 : Ref sig .tc := ⟨.hbm, 230, rfl⟩
abbrev main_call1_call0_c_33 : Ref sig .tc := ⟨.hbm, 231, rfl⟩
abbrev main_call1_call0_v130 : Ref sig .tc := ⟨.hbm, 232, rfl⟩
abbrev main_call1_call0_v131 : Ref sig .tc := ⟨.hbm, 233, rfl⟩
abbrev main_call1_call0_c_34 : Ref sig .tc := ⟨.hbm, 234, rfl⟩
abbrev main_call1_call0_v132 : Ref sig .tc := ⟨.hbm, 235, rfl⟩
abbrev main_call1_call0_v133 : Ref sig .tc := ⟨.hbm, 236, rfl⟩
abbrev main_call1_call0_v134 : Ref sig .tc := ⟨.hbm, 237, rfl⟩
abbrev main_call1_call0_v135 : Ref sig .tc := ⟨.hbm, 238, rfl⟩
abbrev main_call1_call0_v136 : Ref sig .tc := ⟨.hbm, 239, rfl⟩
abbrev main_call1_call0_v137 : Ref sig .tc := ⟨.hbm, 240, rfl⟩
abbrev main_call1_call0_v138 : Ref sig .tc := ⟨.hbm, 241, rfl⟩
abbrev main_call1_call0_v139 : Ref sig .tc := ⟨.hbm, 242, rfl⟩
abbrev main_call1_call0_c_35 : Ref sig .tc := ⟨.hbm, 243, rfl⟩
abbrev main_call1_call0_v140 : Ref sig .tc := ⟨.hbm, 244, rfl⟩
abbrev main_call1_call0_v141 : Ref sig .tc := ⟨.hbm, 245, rfl⟩
abbrev main_call1_call0_v142 : Ref sig .tc := ⟨.hbm, 246, rfl⟩
abbrev main_call1_call0_c_36 : Ref sig .tc := ⟨.hbm, 247, rfl⟩
abbrev main_call1_call0_v143 : Ref sig .tc := ⟨.hbm, 248, rfl⟩
abbrev main_call1_call0_v144 : Ref sig .tc := ⟨.hbm, 249, rfl⟩
abbrev main_call1_call0_c_37 : Ref sig .tc := ⟨.hbm, 250, rfl⟩
abbrev main_call1_call0_v145 : Ref sig .tc := ⟨.hbm, 251, rfl⟩
abbrev main_call1_call0_v146 : Ref sig .tc := ⟨.hbm, 252, rfl⟩
abbrev main_call1_call0_v147 : Ref sig .tc := ⟨.hbm, 253, rfl⟩
abbrev main_call1_call0_v148 : Ref sig .tc := ⟨.hbm, 254, rfl⟩
abbrev main_call1_call0_v149 : Ref sig .tc := ⟨.hbm, 255, rfl⟩
abbrev main_call1_call0_c_38 : Ref sig .tc := ⟨.hbm, 256, rfl⟩
abbrev main_call1_call0_v150 : Ref sig .tc := ⟨.hbm, 257, rfl⟩
abbrev main_call1_call0_v151 : Ref sig .tc := ⟨.hbm, 258, rfl⟩
abbrev main_call1_call0_c_39 : Ref sig .tc := ⟨.hbm, 259, rfl⟩
abbrev main_call1_call0_v152 : Ref sig .tc := ⟨.hbm, 260, rfl⟩
abbrev main_call1_call0_v153 : Ref sig .tc := ⟨.hbm, 261, rfl⟩
abbrev main_call1_call0_v154 : Ref sig .tc := ⟨.hbm, 262, rfl⟩
abbrev main_call1_call0_v155 : Ref sig .tc := ⟨.hbm, 263, rfl⟩
abbrev main_call1_call0_v156 : Ref sig .tc := ⟨.hbm, 264, rfl⟩
abbrev main_call1_call0_c_40 : Ref sig .tc := ⟨.hbm, 265, rfl⟩
abbrev main_call1_call0_v157 : Ref sig .tc := ⟨.hbm, 266, rfl⟩
abbrev main_call1_call0_v158 : Ref sig .tc := ⟨.hbm, 267, rfl⟩
abbrev main_call1_call0_c_41 : Ref sig .tc := ⟨.hbm, 268, rfl⟩
abbrev main_call1_call0_v159 : Ref sig .tc := ⟨.hbm, 269, rfl⟩
abbrev main_call1_call0_v160 : Ref sig .tc := ⟨.hbm, 270, rfl⟩
abbrev main_call1_call0_v161 : Ref sig .tc := ⟨.hbm, 271, rfl⟩
abbrev main_call1_call0_v162 : Ref sig .tc := ⟨.hbm, 272, rfl⟩
abbrev main_call1_call0_v163 : Ref sig .tc := ⟨.hbm, 273, rfl⟩
abbrev main_call1_call0_c_42 : Ref sig .tc := ⟨.hbm, 274, rfl⟩
abbrev main_call1_call0_v164 : Ref sig .tc := ⟨.hbm, 275, rfl⟩
abbrev main_call1_call0_v165 : Ref sig .tc := ⟨.hbm, 276, rfl⟩
abbrev main_call1_call0_c_43 : Ref sig .tc := ⟨.hbm, 277, rfl⟩
abbrev main_call1_call0_v166 : Ref sig .tc := ⟨.hbm, 278, rfl⟩
abbrev main_call1_call0_v167 : Ref sig .tc := ⟨.hbm, 279, rfl⟩
abbrev main_call1_call0_v168 : Ref sig .tc := ⟨.hbm, 280, rfl⟩
abbrev main_call1_call0_v169 : Ref sig .tc := ⟨.hbm, 281, rfl⟩
abbrev main_call1_call0_v170 : Ref sig .tc := ⟨.hbm, 282, rfl⟩
abbrev main_call1_v23_0 : Ref sig .tc := ⟨.hbm, 283, rfl⟩
abbrev main_call1_call0_v172 : Ref sig .tc := ⟨.hbm, 284, rfl⟩
abbrev main_call1_call0_v173 : Ref sig .tc := ⟨.hbm, 285, rfl⟩
abbrev main_call1_call0_c_44 : Ref sig .tc := ⟨.hbm, 286, rfl⟩
abbrev main_call1_call0_v174 : Ref sig .tc := ⟨.hbm, 287, rfl⟩
abbrev main_call1_v23_1 : Ref sig .tc := ⟨.hbm, 288, rfl⟩
abbrev main_call1_v24 : Ref sig .tc := ⟨.hbm, 289, rfl⟩
abbrev main_call1_c_3 : Ref sig .tc := ⟨.hbm, 290, rfl⟩
abbrev main_call1_v25 : Ref sig .tc := ⟨.hbm, 291, rfl⟩
abbrev main_call1_v26 : Ref sig .tc := ⟨.hbm, 292, rfl⟩
abbrev main_call1_c_4 : Ref sig .tc := ⟨.hbm, 293, rfl⟩
abbrev main_call1_v27 : Ref sig .tc := ⟨.hbm, 294, rfl⟩
abbrev main_call1_v28 : Ref sig .tc := ⟨.hbm, 295, rfl⟩
abbrev main_call1_v29 : Ref sig .tc := ⟨.hbm, 296, rfl⟩
abbrev main_call1_cst : Ref sig .tc := ⟨.hbm, 297, rfl⟩
abbrev main_call1_v30 : Ref sig .tc := ⟨.hbm, 298, rfl⟩
abbrev main_call1_v31 : Ref sig .tc := ⟨.hbm, 299, rfl⟩
abbrev main_call1_v32 : Ref sig .tc := ⟨.hbm, 300, rfl⟩
abbrev main_call1_v33 : Ref sig .tc := ⟨.hbm, 301, rfl⟩
abbrev main_call1_v34 : Ref sig .tc := ⟨.hbm, 302, rfl⟩
abbrev main_call1_v35 : Ref sig .tc := ⟨.hbm, 303, rfl⟩
abbrev main_call1_v36 : Ref sig .tc := ⟨.hbm, 304, rfl⟩
abbrev main_call1_v37 : Ref sig .tc := ⟨.hbm, 305, rfl⟩
abbrev main_v10 : Ref sig .tc := ⟨.hbm, 306, rfl⟩
abbrev main_cst_3 : Ref sig .tc := ⟨.hbm, 307, rfl⟩
abbrev main_v11 : Ref sig .tc := ⟨.hbm, 308, rfl⟩
abbrev main_v12 : Ref sig .tc := ⟨.hbm, 309, rfl⟩
abbrev main_cst_4 : Ref sig .tc := ⟨.hbm, 310, rfl⟩
abbrev main_v13 : Ref sig .tc := ⟨.hbm, 311, rfl⟩
abbrev main_v14 : Ref sig .tc := ⟨.hbm, 312, rfl⟩
abbrev main_cst_5 : Ref sig .tc := ⟨.hbm, 313, rfl⟩
abbrev main_v15 : Ref sig .tc := ⟨.hbm, 314, rfl⟩
abbrev main_v16 : Ref sig .tc := ⟨.hbm, 315, rfl⟩
abbrev main_v17 : Ref sig .tc := ⟨.hbm, 316, rfl⟩
abbrev main_v18 : Ref sig .tc := ⟨.hbm, 317, rfl⟩
abbrev main_v19 : Ref sig .tc := ⟨.hbm, 318, rfl⟩
abbrev main_v20 : Ref sig .tc := ⟨.hbm, 319, rfl⟩
abbrev main_cst_6 : Ref sig .tc := ⟨.hbm, 320, rfl⟩
abbrev main_v21 : Ref sig .tc := ⟨.hbm, 321, rfl⟩
abbrev main_v22 : Ref sig .tc := ⟨.hbm, 322, rfl⟩
abbrev main_cst_7 : Ref sig .tc := ⟨.hbm, 323, rfl⟩
abbrev main_v23 : Ref sig .tc := ⟨.hbm, 324, rfl⟩
abbrev main_v24 : Ref sig .tc := ⟨.hbm, 325, rfl⟩
abbrev main_v25 : Ref sig .tc := ⟨.hbm, 326, rfl⟩
abbrev main_cst_8 : Ref sig .tc := ⟨.hbm, 327, rfl⟩
abbrev main_v26 : Ref sig .tc := ⟨.hbm, 328, rfl⟩
abbrev main_v27 : Ref sig .tc := ⟨.hbm, 329, rfl⟩
abbrev main_v28 : Ref sig .tc := ⟨.hbm, 330, rfl⟩
abbrev main_cst_9 : Ref sig .tc := ⟨.hbm, 331, rfl⟩
abbrev main_cst_10 : Ref sig .tc := ⟨.hbm, 332, rfl⟩
abbrev main_call3_v0 : Ref sig .tc := ⟨.hbm, 333, rfl⟩
abbrev main_call3_v1 : Ref sig .tc := ⟨.hbm, 334, rfl⟩
abbrev main_v29 : Ref sig .tc := ⟨.hbm, 335, rfl⟩
abbrev main_v30 : Ref sig .tc := ⟨.hbm, 336, rfl⟩
abbrev main_cst_11 : Ref sig .tc := ⟨.hbm, 337, rfl⟩
abbrev main_cst_12 : Ref sig .tc := ⟨.hbm, 338, rfl⟩
abbrev main_call4_v0 : Ref sig .tc := ⟨.hbm, 339, rfl⟩
abbrev main_call4_v1 : Ref sig .tc := ⟨.hbm, 340, rfl⟩
abbrev main_v31 : Ref sig .tc := ⟨.hbm, 341, rfl⟩
abbrev main_v32 : Ref sig .tc := ⟨.hbm, 342, rfl⟩
abbrev main_v33 : Ref sig .tc := ⟨.hbm, 343, rfl⟩
abbrev main_cst_13 : Ref sig .tc := ⟨.hbm, 344, rfl⟩
abbrev main_cst_14 : Ref sig .tc := ⟨.hbm, 345, rfl⟩
abbrev main_call5_v0 : Ref sig .tc := ⟨.hbm, 346, rfl⟩
abbrev main_call5_v1 : Ref sig .tc := ⟨.hbm, 347, rfl⟩
abbrev main_v34 : Ref sig .tc := ⟨.hbm, 348, rfl⟩
abbrev main_v35 : Ref sig .tc := ⟨.hbm, 349, rfl⟩
abbrev main_v36 : Ref sig .tc := ⟨.hbm, 350, rfl⟩
abbrev main_cst_15 : Ref sig .tc := ⟨.hbm, 351, rfl⟩
abbrev main_cst_16 : Ref sig .tc := ⟨.hbm, 352, rfl⟩
abbrev main_call6_v0 : Ref sig .tc := ⟨.hbm, 353, rfl⟩
abbrev main_call6_v1 : Ref sig .tc := ⟨.hbm, 354, rfl⟩
abbrev main_v37 : Ref sig .tc := ⟨.hbm, 355, rfl⟩
abbrev main_v38 : Ref sig .tc := ⟨.hbm, 356, rfl⟩
abbrev main_v39 : Ref sig .tc := ⟨.hbm, 357, rfl⟩
abbrev main_cst_17 : Ref sig .tc := ⟨.hbm, 358, rfl⟩
abbrev main_cst_18 : Ref sig .tc := ⟨.hbm, 359, rfl⟩
abbrev main_call7_v0 : Ref sig .tc := ⟨.hbm, 360, rfl⟩
abbrev main_call7_v1 : Ref sig .tc := ⟨.hbm, 361, rfl⟩
abbrev main_v40 : Ref sig .tc := ⟨.hbm, 362, rfl⟩
abbrev main_v41 : Ref sig .tc := ⟨.hbm, 363, rfl⟩
abbrev main_v42 : Ref sig .tc := ⟨.hbm, 364, rfl⟩
abbrev main_cst_19 : Ref sig .tc := ⟨.hbm, 365, rfl⟩
abbrev main_cst_20 : Ref sig .tc := ⟨.hbm, 366, rfl⟩
abbrev main_call8_v0 : Ref sig .tc := ⟨.hbm, 367, rfl⟩
abbrev main_call8_v1 : Ref sig .tc := ⟨.hbm, 368, rfl⟩
abbrev main_v43 : Ref sig .tc := ⟨.hbm, 369, rfl⟩
abbrev main_v44 : Ref sig .tc := ⟨.hbm, 370, rfl⟩
abbrev main_v45 : Ref sig .tc := ⟨.hbm, 371, rfl⟩
abbrev main_cst_21 : Ref sig .tc := ⟨.hbm, 372, rfl⟩
abbrev main_cst_22 : Ref sig .tc := ⟨.hbm, 373, rfl⟩
abbrev main_call9_v0 : Ref sig .tc := ⟨.hbm, 374, rfl⟩
abbrev main_call9_v1 : Ref sig .tc := ⟨.hbm, 375, rfl⟩
abbrev main_v46 : Ref sig .tc := ⟨.hbm, 376, rfl⟩
abbrev main_v47 : Ref sig .tc := ⟨.hbm, 377, rfl⟩
abbrev main_v48 : Ref sig .tc := ⟨.hbm, 378, rfl⟩
abbrev main_cst_23 : Ref sig .tc := ⟨.hbm, 379, rfl⟩
abbrev main_cst_24 : Ref sig .tc := ⟨.hbm, 380, rfl⟩
abbrev main_call10_v0 : Ref sig .tc := ⟨.hbm, 381, rfl⟩
abbrev main_call10_v1 : Ref sig .tc := ⟨.hbm, 382, rfl⟩
abbrev main_v49 : Ref sig .tc := ⟨.hbm, 383, rfl⟩
abbrev main_v50 : Ref sig .tc := ⟨.hbm, 384, rfl⟩
abbrev main_v51 : Ref sig .tc := ⟨.hbm, 385, rfl⟩
abbrev main_cst_25 : Ref sig .tc := ⟨.hbm, 386, rfl⟩
abbrev main_cst_26 : Ref sig .tc := ⟨.hbm, 387, rfl⟩
abbrev main_call11_v0 : Ref sig .tc := ⟨.hbm, 388, rfl⟩
abbrev main_call11_v1 : Ref sig .tc := ⟨.hbm, 389, rfl⟩
abbrev main_v52 : Ref sig .tc := ⟨.hbm, 390, rfl⟩
abbrev main_v53 : Ref sig .tc := ⟨.hbm, 391, rfl⟩
abbrev main_v54 : Ref sig .tc := ⟨.hbm, 392, rfl⟩
abbrev main_v55 : Ref sig .tc := ⟨.hbm, 393, rfl⟩
abbrev main_cst_27 : Ref sig .tc := ⟨.hbm, 394, rfl⟩
abbrev main_v56 : Ref sig .tc := ⟨.hbm, 395, rfl⟩
abbrev main_v57 : Ref sig .tc := ⟨.hbm, 396, rfl⟩
abbrev main_cst_28 : Ref sig .tc := ⟨.hbm, 397, rfl⟩
abbrev main_v58 : Ref sig .tc := ⟨.hbm, 398, rfl⟩
abbrev main_v59 : Ref sig .tc := ⟨.hbm, 399, rfl⟩
abbrev main_v60 : Ref sig .tc := ⟨.hbm, 400, rfl⟩
abbrev main_v61 : Ref sig .tc := ⟨.hbm, 401, rfl⟩
abbrev main_cst_29 : Ref sig .tc := ⟨.hbm, 402, rfl⟩
abbrev main_v62 : Ref sig .tc := ⟨.hbm, 403, rfl⟩
abbrev main_v63 : Ref sig .tc := ⟨.hbm, 404, rfl⟩
abbrev main_v64 : Ref sig .tc := ⟨.hbm, 405, rfl⟩
abbrev main_v65 : Ref sig .tc := ⟨.hbm, 406, rfl⟩
abbrev main_v66 : Ref sig .tc := ⟨.hbm, 407, rfl⟩

abbrev nD : Nat := 1
abbrev τ : Topo := Topo.v7x

variable {F : FTy → Type} [FloatOps F]
-- ==== Proof.Spec.lean ====
/- The random draw as arithmetic of words: the threefry cipher on one counter. Both programs are shown to compute it entry by entry. -/
module

public import Idealize.ShloMosaic.PureOps.Vector

@[expose] public section

namespace Cert.Proof

/-- The first half of a round of threefry: the sum of the two words replaces the first. -/
def add2 (p : BitVec 32 × BitVec 32) : BitVec 32 × BitVec 32 := (p.1 + p.2, p.2)

/-- The second half of a round: the second word is rotated left by `r` (`s` is `32 - r`) and the first is added bit by bit. -/
def rot2 (r s : BitVec 32) (p : BitVec 32 × BitVec 32) : BitVec 32 × BitVec 32 :=
  (p.1, p.1 ^^^ (p.2 <<< r ||| p.2 >>> s))

/-- A round. -/
def mix (r s : BitVec 32) (p : BitVec 32 × BitVec 32) : BitVec 32 × BitVec 32 := rot2 r s (add2 p)

/-- Four rounds with the even groups' rotations. -/
def mixA (p : BitVec 32 × BitVec 32) : BitVec 32 × BitVec 32 := mix 6 26 (mix 26 6 (mix 15 17 (mix 13 19 p)))

/-- Four rounds with the odd groups' rotations. -/
def mixB (p : BitVec 32 × BitVec 32) : BitVec 32 × BitVec 32 := mix 24 8 (mix 16 16 (mix 29 3 (mix 17 15 p)))

/-- A key injection: the key words `a` and `b`, and the number `n` of the injection. -/
def inject (a b n : BitVec 32) (p : BitVec 32 × BitVec 32) : BitVec 32 × BitVec 32 := (p.1 + a, p.2 + b + n)

/-- The cipher's third key word. -/
def key2 (k0 k1 : BitVec 32) : BitVec 32 := k0 ^^^ k1 ^^^ 466688986

/-- Threefry-2x32 with twenty rounds, under the key words `k0`, `k1`, `k2`. -/
def threefry (k0 k1 k2 : BitVec 32) (p : BitVec 32 × BitVec 32) : BitVec 32 × BitVec 32 :=
  inject k2 k0 5 (mixA (inject k1 k2 4 (mixB (inject k0 k1 3 (mixA (inject k2 k0 2 (mixB (inject k1 k2 1
    (mixA (p.1 + k0, p.2 + k1))))))))))

end Cert.Proof

end
-- ==== Proof.Draw.lean ====
/- The deviate as arithmetic over the extended reals: from the cipher's words to a draw from [0, 1), from that to the argument
   of the inverse error function, and the function itself in its two polynomials. -/
module

public import Idealize.ShloMosaic.PureOps.Ideal
public import proofs.«01_k».proof.Proof.Spec

@[expose] public section

noncomputable section

namespace Cert.Proof

open Idealize.ShloMosaic

/-- The number a pattern of 32 bits denotes. -/
abbrev lit (b : BitVec 32) : EReal := FloatOps.ofBits (F := Ideal) .f32 b

/-- The two cipher words of a counter, under the key 42, added bit by bit. -/
def drawBits (c : BitVec 32 × BitVec 32) : BitVec 32 := (threefry 0 42 (key2 0 42) c).1 ^^^ (threefry 0 42 (key2 0 42) c).2

/-- The number in [0, 1) whose 23 bits are the upper ones of the word. -/
def unit01 (b : BitVec 32) : EReal := lit (b >>> 9#32 ||| 1065353216#32) - lit 0x3F800000#32

/-- The argument of the inverse error function, from a draw of [0, 1). -/
def argument (f : EReal) : EReal := max (lit 0xBF7FFFFF#32) (f * lit 0x40000000#32 + lit 0xBF7FFFFF#32)

/-- Minus the logarithm of one minus the square. -/
def depth (u : EReal) : EReal := -Ideal.log1p (u * -u)

/-- Which of the two polynomials applies. -/
def near (w : EReal) : BitVec 1 := FloatOps.cmpf (F := Ideal) (φ := .f32) .olt w (lit 0x40A00000#32)

/-- The polynomials' variable. -/
def shifted (w : EReal) : EReal := Scalar.select (near w) (w - lit 0x40200000#32) (Ideal.sqrt w - lit 0x40400000#32)

/-- One step of the two polynomials' Horner scheme, the coefficient chosen at the step. -/
def step (s : BitVec 1) (x p : EReal) (c : BitVec 32 × BitVec 32) : EReal := Scalar.select s (lit c.1) (lit c.2) + p * x

/-- The coefficients after the leading pair. -/
def coeffs : List (BitVec 32 × BitVec 32) :=
  [(0x34B84B36#32, 0x38D3B56B#32), (0xB66C7357#32, 0x3AB0DC72#32), (0xB6935AC1#32, 0xBB70BDE7#32), (0x396532DB#32, 0x3BBC127B#32),
    (0xBAA45408#32, 0xBBF9C5D7#32), (0xBB88E4EF#32, 0x3C1AA57E#32), (0x3E7C8F63#32, 0x3F8036DB#32), (0x3FC02E2F#32, 0x40354F7E#32)]

/-- The first `n` steps of the scheme. -/
def horner (n : Nat) (s : BitVec 1) (x : EReal) : EReal :=
  (coeffs.take n).foldl (step s x) (Scalar.select s (lit 0x32F16588#32) (lit 0xB951F09B#32))

/-- The inverse error function, infinite where its argument's magnitude is one. -/
def erfInv (u : EReal) : EReal :=
  Scalar.select (FloatOps.cmpf (F := Ideal) (φ := .f32) .oeq (max u (-u)) (lit 0x3F800000#32)) (u * lit 0x7F800000#32)
    (horner 8 (near (depth u)) (shifted (depth u)) * u)

end Cert.Proof

end
-- ==== Proof.KerWords.lean ====
/- The kernel's words: its block of counters, and the cipher on them, round by round. -/
module

public import proofs.«01_k».proof.Proof.Gen.KernelIdeal.Frame
public import proofs.«01_k».proof.Proof.Draw

@[expose] public section

set_option maxRecDepth 8192

noncomputable section

namespace Cert.Proof

open Idealize.ShloMosaic Cert.KernelIdeal Cert.KernelIdeal.Gen

/-- A block of 32-bit words. -/
abbrev Block := IVec S1600x128 32

/-- Shifting left by an amount below the width. -/
theorem shli_below (x r : BitVec 32) (h : r.toNat < 32) : IntOp.shli .vector x r = x <<< r := if_pos h

/-- Shifting right by an amount below the width. -/
theorem shrui_below (x r : BitVec 32) (h : r.toNat < 32) : IntOp.shrui .vector x r = x >>> r := if_pos h

/-- The second half of a round on whole blocks. -/
def turn (x y : Block) (r s : BitVec 32) : Block :=
  xori x (ori (shli y (broadcast S1600x128 r)) (shrui y (broadcast S1600x128 s)))

/-- At entry `j` the two blocks hold the words of `p` after the first half of a round. -/
def Summed (x y : Block) (j : S1600x128.Idx) (p : BitVec 32 × BitVec 32) : Prop := x j = (add2 p).1 ∧ y j = (add2 p).2

/-- The second half of a round at an entry. -/
theorem turn_apply {x y : Block} {j : S1600x128.Idx} {p : BitVec 32 × BitVec 32} (h : Summed x y j p) (r s : BitVec 32)
    (hr : r.toNat < 32) (hs : s.toNat < 32) : x j = (mix r s p).1 ∧ turn x y r s j = (mix r s p).2 := by
  refine ⟨h.1, ?_⟩
  show x j ^^^ (IntOp.shli .vector (y j) r ||| IntOp.shrui .vector (y j) s) = _
  rw [shli_below _ _ hr, shrui_below _ _ hs, h.1, h.2]
  rfl

/-- A round and the first half of the next. -/
theorem Summed.next {x y : Block} {j : S1600x128.Idx} {p : BitVec 32 × BitVec 32} (h : Summed x y j p) (r s : BitVec 32)
    (hr : r.toNat < 32) (hs : s.toNat < 32) : Summed (addi x (turn x y r s)) (turn x y r s) j (mix r s p) := by
  obtain ⟨h1, h2⟩ := turn_apply h r s hr hs
  refine ⟨?_, h2⟩
  show x j + turn x y r s j = _
  rw [h1, h2]
  rfl

/-- The two words at an entry after a round and an injection whose second key word and number are added up in `d`. -/
theorem injected {x y : Block} {j : S1600x128.Idx} {p : BitVec 32 × BitVec 32} (h : Summed x y j p) (r s a b n d : BitVec 32)
    (hr : r.toNat < 32) (hs : s.toNat < 32) (hd : b + n = d) :
    addi x (broadcast S1600x128 a) j = (inject a b n (mix r s p)).1
      ∧ addi (turn x y r s) (broadcast S1600x128 d) j = (inject a b n (mix r s p)).2 := by
  obtain ⟨h1, h2⟩ := turn_apply h r s hr hs
  constructor
  · show x j + a = (mix r s p).1 + a
    rw [h1]
  · show turn x y r s j + d = (mix r s p).2 + b + n
    rw [h2, BitVec.add_assoc, hd]

/-- A round, an injection, and the first half of the next round. -/
theorem Summed.inject {x y : Block} {j : S1600x128.Idx} {p : BitVec 32 × BitVec 32} (h : Summed x y j p) (r s a b n d : BitVec 32)
    (hr : r.toNat < 32) (hs : s.toNat < 32) (hd : b + n = d) :
    Summed (addi (addi x (broadcast S1600x128 a)) (addi (turn x y r s) (broadcast S1600x128 d)))
      (addi (turn x y r s) (broadcast S1600x128 d)) j (Cert.Proof.inject a b n (mix r s p)) := by
  obtain ⟨h1, h2⟩ := injected h r s a b n d hr hs hd
  refine ⟨?_, h2⟩
  show addi x (broadcast S1600x128 a) j + addi (turn x y r s) (broadcast S1600x128 d) j = _
  rw [h1, h2]
  rfl

/-- The last round and injection, the two words added bit by bit, and the shift to the fraction's place. -/
theorem Summed.last {x y : Block} {j : S1600x128.Idx} {p : BitVec 32 × BitVec 32} (h : Summed x y j p) (r s a b n d : BitVec 32)
    (hr : r.toNat < 32) (hs : s.toNat < 32) (hd : b + n = d) :
    shrui (xori (addi x (broadcast S1600x128 a)) (addi (turn x y r s) (broadcast S1600x128 d))) (broadcast S1600x128 9#32) j
      = ((Cert.Proof.inject a b n (mix r s p)).1 ^^^ (Cert.Proof.inject a b n (mix r s p)).2) >>> 9#32 := by
  obtain ⟨h1, h2⟩ := injected h r s a b n d hr hs hd
  show IntOp.shrui .vector (addi x (broadcast S1600x128 a) j ^^^ addi (turn x y r s) (broadcast S1600x128 d) j) 9#32 = _
  rw [h1, h2, shrui_below _ _ (by decide)]

/-- The third key word under the key 42. -/
abbrev third : BitVec 32 := key2 0 42

/-- The first four rounds, an injection. -/
theorem words1 (i : grid0.Coords) (j : S1600x128.Idx) :
    Summed (k0_pay13 (k0_pay10 i) (k0_pay11 i)) (k0_pay12 (k0_pay10 i) (k0_pay11 i)) j
      (inject 42 third 1 (mixA (0, k0_pay3 i j))) := by
  have h4 : Summed (k0_pay4 i) (k0_pay3 i) j (0, k0_pay3 i j) := ⟨rfl, rfl⟩
  have h6 : Summed (k0_pay6 i) (k0_pay5 i) j _ := h4.next 13#32 19#32 (by decide) (by decide)
  have h8 : Summed (k0_pay8 i) (k0_pay7 i) j _ := h6.next 15#32 17#32 (by decide) (by decide)
  have h10 : Summed (k0_pay10 i) (k0_pay9 i) j _ := h8.next 26#32 6#32 (by decide) (by decide)
  exact h10.inject 6#32 26#32 42 third 1 466689009#32 (by decide) (by decide) (by decide)

/-- Four more rounds, an injection, a round. -/
theorem words2 (x y : Block) (j : S1600x128.Idx) (p : BitVec 32 × BitVec 32) (h : Summed (k0_pay13 x y) (k0_pay12 x y) j p) :
    Summed (k0_pay23 x y) (k0_pay22 x y) j (mix 13 19 (inject third 0 2 (mixB p))) := by
  have h15 : Summed (k0_pay15 x y) (k0_pay14 x y) j _ := h.next 17#32 15#32 (by decide) (by decide)
  have h17 : Summed (k0_pay17 x y) (k0_pay16 x y) j _ := h15.next 29#32 3#32 (by decide) (by decide)
  have h19 : Summed (k0_pay19 x y) (k0_pay18 x y) j _ := h17.next 16#32 16#32 (by decide) (by decide)
  have h21 : Summed (k0_pay21 x y) (k0_pay20 x y) j _ := h19.inject 24#32 8#32 466689008#32 0 2 2#32 (by decide) (by decide) (by decide)
  exact h21.next 13#32 19#32 (by decide) (by decide)

/-- Three rounds, an injection, three rounds. -/
theorem words3 (y x : Block) (j : S1600x128.Idx) (p : BitVec 32 × BitVec 32) (h : Summed x y j p) :
    Summed (k0_pay35 y x 15#32) (k0_pay34 y x 15#32) j
      (mix 16 16 (mix 29 3 (mix 17 15 (inject 0 42 3 (mix 6 26 (mix 26 6 (mix 15 17 p))))))) := by
  have h25 : Summed (k0_pay25 y x 15#32) (k0_pay24 y x 15#32) j _ := h.next 15#32 17#32 (by decide) (by decide)
  have h27 : Summed (k0_pay27 y x 15#32) (k0_pay26 y x 15#32) j _ := h25.next 26#32 6#32 (by decide) (by decide)
  have h29 : Summed (k0_pay29 y x 15#32) (k0_pay28 y x 15#32) j _ := h27.inject 6#32 26#32 0#32 42 3 45#32 (by decide) (by decide) (by decide)
  have h31 : Summed (k0_pay31 y x 15#32) (k0_pay30 y x 15#32) j _ := h29.next 17#32 15#32 (by decide) (by decide)
  have h33 : Summed (k0_pay33 y x 15#32) (k0_pay32 y x 15#32) j _ := h31.next 29#32 3#32 (by decide) (by decide)
  exact h33.next 16#32 16#32 (by decide) (by decide)

/-- The last five rounds and the last two injections. -/
theorem words4 (y x : Block) (j : S1600x128.Idx) (p : BitVec 32 × BitVec 32) (h : Summed x y j p) :
    k0_pay36 y x 24#32 j = ((inject third 0 5 (mixA (inject 42 third 4 (mix 24 8 p)))).1
      ^^^ (inject third 0 5 (mixA (inject 42 third 4 (mix 24 8 p)))).2) >>> 9#32 := by
  have h1 := h.inject 24#32 8#32 42#32 third 4 466689012#32 (by decide) (by decide) (by decide)
  have h2 := h1.next 13#32 19#32 (by decide) (by decide)
  have h3 := h2.next 15#32 17#32 (by decide) (by decide)
  have h4 := h3.next 26#32 6#32 (by decide) (by decide)
  exact h4.last 6#32 26#32 466689008#32 0 5 5#32 (by decide) (by decide) (by decide)

/-- The block of words the kernel makes its numbers of: the cipher of each entry's counter, shifted. -/
theorem words (i : grid0.Coords) (x0 : Vec Ideal S1x1600x2 .f32) (j : S1600x128.Idx) (n : BitVec 32) (hn : k0_pay3 i j = n + 42) :
    k0_pay47 i x0 j = drawBits (0, n) >>> 9#32 := by
  have h := words4 _ _ j _ (words3 _ _ j _ (words2 _ _ j _ (words1 i j)))
  rw [hn] at h
  exact h

end Cert.Proof

end
-- ==== Proof.KerPoint.lean ====
/- The kernel's arithmetic at one entry: the argument, the two polynomials and the choice between them, and the factor. -/
module

public import proofs.«01_k».proof.Proof.Gen.KernelIdeal.Frame
public import proofs.«01_k».proof.Proof.Draw
public import Idealize.ShloMosaic.Lib.Pointwise
public import Idealize.ShloMosaic.Lib.IdealHost

@[expose] public section

set_option maxRecDepth 8192

noncomputable section

namespace Cert.Proof

open Idealize.ShloMosaic Cert.KernelIdeal Cert.KernelIdeal.Gen

/-- A polynomial by its Horner scheme, from the coefficients' patterns. -/
def chain (x : EReal) (c : BitVec 32) (l : List (BitVec 32)) : EReal := l.foldl (fun p d => p * x + lit d) (lit c)

/-- The kernel's polynomial for small arguments. -/
def low (x : EReal) : EReal := chain x 0x32F16588#32 (coeffs.map Prod.fst)

/-- The kernel's polynomial for the others. -/
def high (x : EReal) : EReal := chain x 0xB951F09B#32 (coeffs.map Prod.snd)

/-- The kernel's entry from the draw of [0, 1) and the factor. -/
def kernelDeviate (f s : EReal) : EReal :=
  Scalar.select (near (depth (argument f))) (low (depth (argument f) - lit 0x40200000#32))
      (high (Ideal.sqrt (depth (argument f)) - lit 0x40400000#32)) * argument f * lit 0x3FB504F3#32 * s

/-- The argument at an entry. -/
theorem arg_apply (v : IVec S1600x128 32) (j : S1600x128.Idx) (b : BitVec 32) (h : v j = b >>> 9#32) :
    k0_pay37 (F := Ideal) v 1065353216#32 j = argument (unit01 b) := by
  unfold unit01
  rw [← h]
  rfl

/-- The logarithm at an entry. -/
theorem depth_apply (v : IVec S1600x128 32) (j : S1600x128.Idx) (b : BitVec 32) (h : v j = b >>> 9#32) :
    k0_pay38 (F := Ideal) v 1065353216#32 j = depth (argument (unit01 b)) := by
  have e := arg_apply v j b h
  have e1 : k0_pay38 (F := Ideal) v 1065353216#32 j = lit 0#32 - Ideal.log1p ((lit 0#32 - k0_pay37 (F := Ideal) v 1065353216#32 j)
      * k0_pay37 (F := Ideal) v 1065353216#32 j) := rfl
  have z : lit 0#32 = 0 := Ideal.ofBits_zero_f32
  rw [e1, e, z, zero_sub, zero_sub, mul_comm]
  rfl

/-- The factor's block spread over the lanes, at an entry. -/
theorem factor_apply (x : Vec Ideal S1x1600x2 .f32) (r : Fin 1600) (l : Fin 128) (k : Fin 2) (off : Fin S1600x2.rank → Nat)
    (hoff : off = ![0, k.val]) (hs : S1600x2.Slices off S1600x1) :
    broadcastTo S1600x128 (shapeCast S1600x1 (extractStridedSlice S1600x1 off (exp (F := Ideal) (φ := .f32) (shapeCast S1600x2 x Facts₀.shapeCasts_S1x1600x2_S1600x2)) hs)
      Facts₀.shapeCasts_S1600x1_S1600x1) Facts₀.broadcasts_S1600x1_S1600x128 (ix2 r l) = Ideal.exp (x (ix3 0 r k)) := by
  subst hoff
  fin_cases k
  · pointwise
  · pointwise

/-- Which lanes carry the second half of the rows. -/
theorem lane_apply (r : Fin 1600) (l : Fin 128) : k0_pay2 (ix2 r l) = if 64 ≤ l.val then 1#1 else 0#1 := by
  have e : k0_pay2 (ix2 r l) = IntOp.cmpi .sge (BitVec.ofNat 32 l.val) 64#32 := by
    pointwise [k0_pay2]
  rw [e]
  clear e
  revert l
  decide

/-- The whole body at an entry. -/
theorem body_apply (v : IVec S1600x128 32) (x : Vec Ideal S1x1600x2 .f32) (r : Fin 1600) (l : Fin 128) (b : BitVec 32)
    (h : v (ix2 r l) = b >>> 9#32) :
    k0_pay42 k0_pay2 (k0_pay37 (F := Ideal) v 1065353216#32) (k0_pay38 (F := Ideal) v 1065353216#32)
        (k0_pay39 (F := Ideal) v 1065353216#32) (k0_pay40 (F := Ideal) v 1065353216#32) (k0_pay41 (F := Ideal) v 1065353216#32) x (ix2 r l)
      = kernelDeviate (unit01 b) (Ideal.exp (x (ix3 0 r (if 64 ≤ l.val then 1 else 0)))) := by
  have e := arg_apply v _ b h
  have ed := depth_apply v _ b h
  have e39 : k0_pay39 (F := Ideal) v 1065353216#32 (ix2 r l) = depth (argument (unit01 b)) - lit 0x40200000#32 := by
    rw [← ed]; rfl
  have e40 : k0_pay40 (F := Ideal) v 1065353216#32 (ix2 r l) = Ideal.sqrt (depth (argument (unit01 b))) - lit 0x40400000#32 := by
    rw [← ed]; rfl
  have e41 : k0_pay41 (F := Ideal) v 1065353216#32 (ix2 r l)
      = chain (depth (argument (unit01 b)) - lit 0x40200000#32) 0x32F16588#32 ((coeffs.take 7).map Prod.fst) := by
    rw [← e39]; rfl
  generalize k0_pay37 (F := Ideal) v 1065353216#32 = A at e ⊢
  generalize k0_pay38 (F := Ideal) v 1065353216#32 = D at ed ⊢
  generalize k0_pay39 (F := Ideal) v 1065353216#32 = X at e39 ⊢
  generalize k0_pay40 (F := Ideal) v 1065353216#32 = Y at e40 ⊢
  generalize k0_pay41 (F := Ideal) v 1065353216#32 = P at e41 ⊢
  have f1 := factor_apply x r l 1 ![0, 1] rfl Facts₀.slices_S1600x2_o0_1_S1600x1
  have f0 := factor_apply x r l 0 ![0, 0] rfl Facts₀.slices_S1600x2_o0_0_S1600x1
  have g : Ideal.exp (x (ix3 0 r (if 64 ≤ l.val then 1 else 0)))
      = Scalar.select (k0_pay2 (ix2 r l)) (Ideal.exp (x (ix3 0 r 1))) (Ideal.exp (x (ix3 0 r 0))) := by
    rw [lane_apply]
    split
    · exact (if_pos rfl).symm
    · exact (if_neg (by decide)).symm
  rw [g, ← f1, ← f0]
  unfold kernelDeviate
  have eL : low (depth (argument (unit01 b)) - lit 0x40200000#32) = P (ix2 r l) * X (ix2 r l) + lit 0x3FC02E2F#32 := by
    rw [e41, e39]; rfl
  rw [eL, ← e40, ← ed, ← e]
  rfl

end Cert.Proof

end
-- ==== Proof.KerBlock.lean ====
/- The kernel's block of results, entry by entry: which row and lane an entry is computed in, its counter, and its value. -/
module

public import proofs.«01_k».proof.Proof.KerWords
public import proofs.«01_k».proof.Proof.KerPoint
public import Idealize.ShloMosaic.Lib.Pipeline.Value

@[expose] public section

set_option maxRecDepth 8192

noncomputable section

namespace Cert.Proof

open Idealize.ShloMosaic Cert.KernelIdeal Cert.KernelIdeal.Gen

/-- The row of the block in which the entry of batch `q` and position `p` is computed. -/
def row (q : Fin 16) (p : Fin 200) : Fin 1600 := ⟨q.val % 8 * 200 + p.val, by omega⟩

/-- Its lane. -/
def lane (q : Fin 16) (e : Fin 64) : Fin 128 := ⟨e.val + 64 * (q.val / 8), by omega⟩

/-- Which of the two factors of the row it takes. -/
def half (q : Fin 16) : Fin 2 := ⟨q.val / 8, by omega⟩

/-- The stored block at an entry reads the computed block at that row and lane. -/
theorem stored_apply (v : FVec Ideal S1600x128 .f32) (q : Fin 16) (p : Fin 200) (e : Fin 64) :
    k0_pay1 v (ix3 q p e) = v (ix2 (row q p) (lane q e)) := by
  pointwise [k0_pay1]
  have := q.isLt
  split
  · exact congrArg v (congrArg₂ ix2 (Fin.ext (by show q.val * 200 + p.val = q.val % 8 * 200 + p.val; omega))
      (Fin.ext (by show e.val = e.val + 64 * (q.val / 8); omega)))
  · exact congrArg v (congrArg₂ ix2 (Fin.ext (by show (q.val - 8) * 200 + p.val = q.val % 8 * 200 + p.val; omega))
      (Fin.ext (by show 64 + e.val = e.val + 64 * (q.val / 8); omega)))

/-- The number of an entry of the block's row `r` and lane `c` at point `g`. -/
def number (g : Nat) (r : Fin 1600) (c : Fin 128) : Nat :=
  g * 204800 + r.val * 64 + c.val + if 64 ≤ c.val then 102336 else 0

/-- The kernel's counters, the key word added. -/
theorem counter_apply (i : grid0.Coords) (r : Fin 1600) (c : Fin 128) :
    k0_pay3 i (ix2 r c) = BitVec.ofNat 32 (number (i 0).val r c) + 42 := by
  have e : k0_pay3 i (ix2 r c) = BitVec.ofNat 32 (i 0).val * 204800#32 + BitVec.ofNat 32 r.val * 64#32 + BitVec.ofNat 32 c.val
      + Scalar.select (k0_pay2 (ix2 r c)) 102336#32 0#32 + 42#32 := by
    pointwise [k0_pay3]
    rfl
  have es : Scalar.select (k0_pay2 (ix2 r c)) 102336#32 0#32 = BitVec.ofNat 32 (if 64 ≤ c.val then 102336 else 0) := by
    rw [lane_apply]
    split <;> rfl
  rw [e, es, number, BitVec.ofNat_add, BitVec.ofNat_add, BitVec.ofNat_add, BitVec.ofNat_mul, BitVec.ofNat_mul]
  rfl

/-- The block a grid point leaves, at an entry. -/
theorem block_apply (i : grid0.Coords) (x : Vec Ideal S1x1600x2 .f32) (q : Fin 16) (p : Fin 200) (e : Fin 64) :
    out0_1 i x (ix3 q p e) = kernelDeviate (unit01 (drawBits (0, BitVec.ofNat 32 (number (i 0).val (row q p) (lane q e)))))
      (Ideal.exp (x (ix3 0 (row q p) (half q)))) := by
  have hz : (![0, 0, 0] : Fin 3 → Nat) = fun _ => 0 := by decide
  unfold out0_1
  rw [View.canon_unit_zero hz, View.ld_unit_zero hz, stored_apply]
  refine (body_apply _ x _ _ _ (words i x _ _ (counter_apply i _ _))).trans ?_
  refine congrArg (fun k => kernelDeviate _ (Ideal.exp (x (ix3 0 (row q p) k)))) (Fin.ext ?_)
  unfold lane half
  have := e.isLt
  have := q.isLt
  split
  · show 1 = q.val / 8
    have h : 64 ≤ e.val + 64 * (q.val / 8) := by assumption
    omega
  · show 0 = q.val / 8
    have h : ¬ 64 ≤ e.val + 64 * (q.val / 8) := by assumption
    omega

end Cert.Proof

end
-- ==== Proof.KerValue.lean ====
/- The kernel's result array after its run: the blocks put together. -/
module

public import proofs.«01_k».proof.Proof.Gen.KernelIdeal.Value
public import proofs.«01_k».proof.Proof.KerBlock

@[expose] public section

set_option maxRecDepth 8192

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The grid point that computes a batch. -/
def point (a : Fin 4096) : Fin 256 := ⟨a.val / 16, by omega⟩

/-- The batch's place in that point's block. -/
def place (a : Fin 4096) : Fin 16 := ⟨a.val % 16, by omega⟩

/-- The factors as the kernel is handed them. -/
abbrev Factors := S256x1600x2.Idx → EReal

/-- One entry of the kernel's result, from the factors' logarithms. -/
def kernelEntry (X : Factors) (a : Fin 4096) (p : Fin 200) (e : Fin 64) : EReal :=
  kernelDeviate (unit01 (drawBits (0, BitVec.ofNat 32 (number (point a).val (row (place a) p) (lane (place a) e)))))
    (Ideal.exp (X (ix3 (point a) (row (place a) p) (half (place a)))))

/-- The kernel's array. -/
def kernelArray (X : Factors) (i : S4096x200x64.Idx) : EReal := kernelEntry X (i 0) (i 1) (i 2)

/-- An entry of the array by the point and the place it belongs to. -/
theorem kernelEntry_eq (X : Factors) (a : Fin 4096) (p : Fin 200) (e : Fin 64) (q : Fin 16) (n : Nat) (hq : place a = q)
    (hn : (point a).val = n) :
    kernelEntry X a p e = kernelDeviate (unit01 (drawBits (0, BitVec.ofNat 32 (number n (row q p) (lane q e)))))
      (Ideal.exp (X (ix3 (point a) (row q p) (half q)))) := by
  subst hq hn
  rfl

/-- A point's number is its coordinate. -/
theorem coords_pt : ∀ t : Fin cfg0.N, (grid0.coords t 0).val = t.val :=
  (by decide +kernel : ∀ t : Fin grid0.N, (grid0.coords t 0).val = t.val)

/-- The factors' block index. -/
theorem index0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t

/-- The result's block index. -/
theorem index1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

/-- A point's block of the factors, at an entry. -/
theorem factors_blk (c : Dev nD) (t : Fin cfg0.N) (r : Fin 1600) (k : Fin 2) (g : Fin 256) (hg : g.val = t.val) :
    iblk m c 0 t (ix3 0 r k) = V m c (Pipeline.arrRef spec0 0) (ix3 g r k) := by
  unfold iblk
  obtain ⟨h0, h1, h2⟩ := index0 t
  generalize V m c (Pipeline.arrRef spec0 0) = X
  refine congrArg X (funext fun a => Fin.ext ?_)
  match a with
  | ⟨0, _⟩ => show win0_0.index t 0 * 1 + 1 * 0 = g.val; omega
  | ⟨1, _⟩ => show win0_0.index t 1 * 1600 + 1 * r.val = r.val; omega
  | ⟨2, _⟩ => show win0_0.index t 2 * 2 + 1 * k.val = k.val; omega

/-- Where an entry of a point's result block lies in the array. -/
theorem result_at (t : Fin cfg0.N) (q : Fin 16) (p : Fin 200) (e : Fin 64) (a : Fin 4096) (ha : a.val = t.val * 16 + q.val) :
    ((cfg0.win 1).blk t).view.emb (ix3 q p e) = (ix3 a p e : S4096x200x64.Idx) := by
  obtain ⟨h0, h1, h2⟩ := index1 t
  refine funext fun b => Fin.ext ?_
  match b with
  | ⟨0, _⟩ => show win0_1.index t 0 * 16 + 1 * q.val = a.val; omega
  | ⟨1, _⟩ => show win0_1.index t 1 * 200 + 1 * p.val = p.val; omega
  | ⟨2, _⟩ => show win0_1.index t 2 * 64 + 1 * e.val = e.val; omega

end Cert.Proof

end
-- ==== Proof.KerArray.lean ====
/- The kernel's result array after its run: the blocks put together. -/
module

public import proofs.«01_k».proof.Proof.KerValue

@[expose] public section

set_option maxRecDepth 8192

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- What a point writes at one entry of its block. -/
theorem written_at (c : Dev nD) (t : Fin cfg0.N) (q : Fin 16) (p : Fin 200) (e : Fin 64) (a : Fin 4096)
    (ha : a.val = t.val * 16 + q.val) :
    out0_1 (grid0.coords t) (iblk m c 0 t) (ix3 q p e) = kernelArray (V m c (Pipeline.arrRef spec0 0)) (ix3 a p e) := by
  have ep : place a = q := Fin.ext (show a.val % 16 = q.val by omega)
  have eg : (point a).val = t.val := show a.val / 16 = t.val by omega
  rw [show kernelArray (V m c (Pipeline.arrRef spec0 0)) (ix3 a p e) = kernelEntry (V m c (Pipeline.arrRef spec0 0)) a p e from rfl,
    kernelEntry_eq _ a p e q _ ep eg]
  generalize hX : iblk m c 0 t = x
  have hx : x (ix3 0 (row q p) (half q)) = V m c (Pipeline.arrRef spec0 0) (ix3 (point a) (row q p) (half q)) := by
    rw [← hX]
    exact factors_blk m c t (row q p) (half q) (point a) eg
  rw [← hx, ← coords_pt t]
  exact block_apply (grid0.coords t) x q p e

/-- A block that holds an array's entries, each at its place, is the array read through the point's block. -/
theorem block_eq (t : Fin cfg0.N) (B : S16x200x64.Idx → EReal) (A : S4096x200x64.Idx → EReal)
    (h : ∀ (q : Fin 16) (p : Fin 200) (e : Fin 64) (a : Fin 4096), a.val = t.val * 16 + q.val → B (ix3 q p e) = A (ix3 a p e)) :
    (cfg0.win 1).cut (grid0.coords t) B = ((cfg0.win 1).blk t).view.read (Elt Ideal) A := by
  refine funext fun y => ?_
  obtain ⟨q, p, e, hy⟩ : ∃ (q : Fin 16) (p : Fin 200) (e : Fin 64), y = ix3 q p e :=
    ⟨y 0, y 1, y 2, funext fun b => by match b with | ⟨0, _⟩ => rfl | ⟨1, _⟩ => rfl | ⟨2, _⟩ => rfl⟩
  subst hy
  have ht : t.val < 256 := t.isLt
  have hb := h q p e ⟨t.val * 16 + q.val, by omega⟩ rfl
  rw [← result_at t q p e _ rfl] at hb
  exact hb

/-- What a point writes back is its block of the kernel's array. -/
theorem flushed_eq (c : Dev nD) (t : Fin cfg0.N) :
    (dats m 0 c).flushed 1 t = ((cfg0.win 1).blk t).view.read (Elt Ideal) (kernelArray (V m c (Pipeline.arrRef spec0 0))) :=
  (Value.flushed1 m c t).trans (block_eq t _ _ fun q p e a ha => written_at m c t q p e a ha)

/-- The entries of a point's block. -/
theorem mem_blk (t : Fin cfg0.N) (i : S4096x200x64.Idx) (h : t.val = (i 0).val / 16) :
    i ∈ ((cfg0.win 1).blk t).view.set := by
  obtain ⟨q, hq⟩ : ∃ q : Fin 16, (i 0).val = t.val * 16 + q.val := ⟨⟨(i 0).val % 16, by omega⟩, by show _ = _ + (i 0).val % 16; omega⟩
  have e : ((cfg0.win 1).blk t).view.emb (ix3 q (i 1) (i 2)) = i :=
    (result_at t q (i 1) (i 2) (i 0) hq).trans
      (funext fun b => by match b with | ⟨0, _⟩ => rfl | ⟨1, _⟩ => rfl | ⟨2, _⟩ => rfl)
  rw [← e]
  exact View.emb_mem_set _ _

/-- The result array after the run. -/
theorem final_array (c : Dev nD) :
    (dats m 0 c).arrAt 1 cfg0.N = kernelArray (V m c (Pipeline.arrRef spec0 0)) :=
  (dats m 0 c).arrAt_eq_of_cover 1 _ (fun t _ => flushed_eq m c t) (fun i => by
    have hi : (i 0).val < 4096 := (i 0).isLt
    exact ⟨⟨(i 0).val / 16, by show _ < 256; omega⟩, flush0_1 _, mem_blk _ i rfl⟩)

end Cert.Proof

end
-- ==== Proof.Line.lean ====
/- Straight lines of host operations, read piece by piece: a program piece is run from one valuation of the buffers to another,
   and what is known of the second is a predicate. Pieces compose at the printed binds. -/
module

public import Idealize.ShloMosaic.Lib.StableHlo.RunHlo

@[expose] public section

noncomputable section

namespace Cert.Proof

open Idealize.ShloMosaic Idealize.ShloMosaic.StableHlo Idealize.SL.Sem

variable {nD : Nat} {τ : Topo} {sig : RefSig} {Val : EltTy → Type} {Λ : Labels}

/-- The piece `p` is a line of host operations, each on the TensorCore's buffers and each determining its results, and from
    the contents `V` it leaves contents of which `Q` holds. -/
def Line (p : Prog (TpuEff nD τ sig Val Λ .tc) PUnit) (V : Valuation τ sig Val) (Q : Valuation τ sig Val → Prop) : Prop :=
  ∃ ops : List (HloOp τ sig Val), IsSeq p ops ∧ (ops.Forall fun op => op.bufs ⊆ tcRefs τ sig)
    ∧ (ops.Forall fun op => op.fresh = ∅) ∧ Q (after ops V)

/-- The buffers of the first `n` indices hold in `W` what they hold in `V`. -/
def Same (n : Nat) (V W : Valuation τ sig Val) : Prop :=
  ∀ r : Ref sig .tc, r.space = .hbm → r.idx.val < n → W (Proc.devRef .tc r) = V (Proc.devRef .tc r)

/-- Buffers kept by two steps in turn are kept by both. -/
theorem Same.trans {n k : Nat} {V W X : Valuation τ sig Val} (h : Same n V W) (h' : Same k W X) (hn : n ≤ k) : Same n V X :=
  fun r hr hi => (h' r hr (hi.trans_le hn)).trans (h r hr hi)

/-- Keeping more buffers keeps the fewer. -/
theorem Same.mono {n k : Nat} {V W : Valuation τ sig Val} (h : Same k V W) (hn : n ≤ k) : Same n V W :=
  fun r hr hi => h r hr (hi.trans_le hn)

/-- The set holds one buffer, of index at least `n`. -/
def Above (n : Nat) (s : Finset (DevRef τ sig)) : Prop :=
  ∃ y : Ref sig .tc, s = {Proc.devRef .tc y} ∧ y.space = .hbm ∧ n ≤ y.idx.val

/-- A line that writes no buffer of the first `n` indices keeps them. -/
theorem same_after {n : Nat} {ops : List (HloOp τ sig Val)} (V : Valuation τ sig Val) (h : ops.Forall fun op => Above n op.writes) :
    Same n V (after ops V) := fun r hr hi =>
  after_of_forall_not_mem ops V fun op hop hb => by
    obtain ⟨y, hy, hs, hn⟩ := List.forall_iff_forall_mem.mp h op hop
    rw [hy, Finset.mem_singleton] at hb
    have := Proc.devRef_injective _ hb
    subst this
    omega

/-- One operation and nothing after it. -/
theorem IsSeq.last {op : HloOp τ sig Val} : IsSeq (nD := nD) (Λ := Λ) (hlo rfl op fun _ => .ret (⟨⟩ : PUnit)) [op] := rfl

/-- A line from its list of operations, the list found by unification with the printed piece. -/
theorem Line.intro {n : Nat} {p : Prog (TpuEff nD τ sig Val Λ .tc) PUnit} {ops : List (HloOp τ sig Val)} {V : Valuation τ sig Val}
    {Q : Valuation τ sig Val → Prop} (h : IsSeq p ops) (hb : ops.Forall fun op => op.bufs ⊆ tcRefs τ sig)
    (hf : ops.map HloOp.fresh = ops.map fun _ => (∅ : Finset (DevRef τ sig)))
    (hw : ops.Forall fun op => Above n op.writes) (hQ : Q (after ops V)) : Line p V fun W => Same n V W ∧ Q W :=
  ⟨ops, h, hb, forall_fresh_of_map hf, same_after V hw, hQ⟩

/-- What is known of the final contents may be weakened. -/
theorem Line.mono {p : Prog (TpuEff nD τ sig Val Λ .tc) PUnit} {V : Valuation τ sig Val} {Q Q' : Valuation τ sig Val → Prop}
    (h : Line p V Q) (hQ : ∀ W, Q W → Q' W) : Line p V Q' := by
  obtain ⟨ops, h1, h2, h3, h4⟩ := h
  exact ⟨ops, h1, h2, h3, hQ _ h4⟩

/-- The empty piece changes nothing. -/
theorem Line.ret {V : Valuation τ sig Val} {Q : Valuation τ sig Val → Prop} (h : Q V) :
    Line (pure ⟨⟩ : Prog (TpuEff nD τ sig Val Λ .tc) PUnit) V Q :=
  ⟨[], IsSeq.nil, trivial, trivial, h⟩

/-- Folding over two lists, one after the other. -/
theorem after_append' (l₁ l₂ : List (HloOp τ sig Val)) (V : Valuation τ sig Val) :
    after (l₁ ++ l₂) V = after l₂ (after l₁ V) := by
  induction l₁ generalizing V with
  | nil => rfl
  | cons op l ih => exact ih (op.result V)

/-- Two pieces, one after the other. -/
theorem Line.bind {p k : Prog (TpuEff nD τ sig Val Λ .tc) PUnit} {V : Valuation τ sig Val} {Q : Valuation τ sig Val → Prop}
    (h : Line p V fun W => Line k W Q) : Line (p >>= fun _ => k) V Q := by
  obtain ⟨o₁, h1, h2, h3, o₂, k1, k2, k3, k4⟩ := h
  refine ⟨o₁ ++ o₂, ?_, List.forall_append.mpr ⟨h2, k2⟩, List.forall_append.mpr ⟨h3, k3⟩, by rwa [after_append']⟩
  unfold IsSeq at *
  rw [h1, k1, seq_append]

/-- One operation, then the rest. -/
theorem Line.step {op : HloOp τ sig Val} {k : Prog (TpuEff nD τ sig Val Λ .tc) PUnit} {V : Valuation τ sig Val}
    {Q : Valuation τ sig Val → Prop} (hb : op.bufs ⊆ tcRefs τ sig) (hf : op.fresh = ∅) (h : Line k (op.result V) Q) :
    Line ((hlo rfl op fun _ => .ret (⟨⟩ : PUnit)) >>= fun _ => k) V Q := by
  obtain ⟨ops, h1, h2, h3, h4⟩ := h
  exact ⟨op :: ops, h1.cons, (List.forall_cons _ _ _).mpr ⟨hb, h2⟩, (List.forall_cons _ _ _).mpr ⟨hf, h3⟩, h4⟩

/-- A first operation read off in front of a list of operations and the rest. -/
theorem pre_cons {op : HloOp τ sig Val} {ops : List (HloOp τ sig Val)} {p k : Prog (TpuEff nD τ sig Val Λ .tc) PUnit}
    (h : p = seqK ops k) : ((hlo rfl op fun _ => .ret (⟨⟩ : PUnit)) >>= fun _ => p) = seqK (op :: ops) k := by rw [h]; rfl

/-- No operation in front of the rest. -/
theorem pre_nil {k : Prog (TpuEff nD τ sig Val Λ .tc) PUnit} : k = seqK [] k := rfl

/-- A list of operations, found by unification with the printed piece, and then the rest: what is known of the contents in
    between is handed to the rest. -/
theorem Line.pre {n : Nat} {p k : Prog (TpuEff nD τ sig Val Λ .tc) PUnit} {ops : List (HloOp τ sig Val)} {V : Valuation τ sig Val}
    {P Q : Valuation τ sig Val → Prop} (h : p = seqK ops k) (hb : ops.Forall fun op => op.bufs ⊆ tcRefs τ sig)
    (hf : ops.map HloOp.fresh = ops.map fun _ => (∅ : Finset (DevRef τ sig)))
    (hw : ops.Forall fun op => Above n op.writes) (hP : P (after ops V))
    (hQ : ∀ W, Same n V W → P W → Line k W Q) : Line p V Q := by
  rw [h, ← seq_bind_seqK]
  exact Line.bind ⟨ops, rfl, hb, forall_fresh_of_map hf, hQ _ (same_after V hw) hP⟩

/-- A whole program that is such a line runs, and at its end `Q` holds of each device's buffers. -/
theorem Line.run (defs : Defs nD τ sig Val Λ) (main : Dev nD → Prog (TpuEff nD τ sig Val Λ .tc) PUnit)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) {Q : Dev nD → Valuation τ sig Val → Prop}
    (hmain : ∀ d, Line (main d) (launchContents m d) (Q d)) :
    θ_run defs (onTc (τ := τ) main) ⟨m, fun _ => 0, ρ⟩ fun r =>
      ∀ d : Dev nD, ∃ W : Valuation τ sig Val, Q d W ∧
        ∀ b : Ref sig .tc, r.2.mem ((d.tc : Thread nD τ).loc b) = W (Proc.devRef .tc b) := by
  choose ops h1 h2 h3 h4 using hmain
  exact θ_run_mono (run_seq hR hC defs main ops h1 h2 m ρ fun d op hop => List.forall_iff_forall_mem.mp (h3 d) op hop)
    fun r hr d => ⟨_, h4 d, fun b => hr d b⟩

end Cert.Proof

end
-- ==== Proof.Take.lean ====
/- The table's lookup as both programs do it: a negative row number counts from the end, and a number still out of range
   reads the not-a-number pattern. -/
module

public import Idealize.ShloMosaic.PureOps.Ideal
public import Idealize.ShloMosaic.Lib.ValueIdxCore
public import Idealize.ShloMosaic.Lib.Pointwise.Reshape
public import proofs.«01_k».proof.Proof.Draw

@[expose] public section

noncomputable section

namespace Cert.Proof

open Idealize.ShloMosaic
open Idealize.ShloMosaic.ValueIdx (takeIdx takeDims gather_take_apply)

/-- The shape of the row numbers. -/
abbrev Rows : Shape := ⟨2, ![4096, 200]⟩

/-- The same with a last axis of one element. -/
abbrev Rows1 : Shape := ⟨3, ![4096, 200, 1]⟩

/-- The row numbers after the negative ones were counted from the end, with a last axis of one. -/
def rowNumbers (c : IVec Rows 32) : IVec Rows1 32 :=
  broadcastInDim Rows1 ![0, 1] (by decide) (select (cmpi .slt c (broadcastInDim Rows ![] (by decide) (constantI ⟨0, ![]⟩ 32 0#32)))
    (addi c (broadcastInDim Rows ![] (by decide) (constantI ⟨0, ![]⟩ 32 1000000#32))) c)

/-- Which of them are in range. -/
def inRange (c : IVec Rows 32) : IVec Rows 1 :=
  Host.reduce IntOp.andi (andi (cmpi .sge (rowNumbers c) (broadcastInDim Rows1 ![] (by decide) (constantI ⟨0, ![]⟩ 32 0#32)))
      (cmpi .sle (rowNumbers c) (broadcastInDim Rows1 ![0, 1, 2] (by decide)
        (broadcastInDim ⟨3, ![1, 1, 1]⟩ ![2] (by decide) (constantI ⟨1, ![1]⟩ 32 999999#32)))))
    (constantI ⟨0, ![]⟩ 1 1#1) (axes := [2]) (by decide) (by decide)

/-- The table's row, its number read signed and clamped. -/
def rowOf (T : (⟨2, ![1000000, 1]⟩ : Shape).Idx → EReal) (c : IVec Rows 32) (y : Rows.Idx) : EReal :=
  T (ix2 ⟨min (rowNumbers c (takeIdx y)).toInt.toNat (1000000 - 1), by omega⟩ 0)

/-- The lookup. -/
def lookup (T : (⟨2, ![1000000, 1]⟩ : Shape).Idx → EReal) (c : IVec Rows 32) (y : Rows.Idx) : EReal :=
  Scalar.select (inRange c y) (rowOf T c y) (lit 0x7FC00000#32)

section Column
variable {α : Type}

/-- The dimension numbers of a lookup of rows of one element each, kept as a last axis. -/
abbrev columnDims (N R C : Nat)
    (wf : GatherDims.WF ⟨2, ![N, 1]⟩ ⟨3, ![R, C, 1]⟩ ⟨3, ![R, C, 1]⟩ [2] [0] [] [0] [] 2 ![1, 1]) :
    GatherDims ⟨2, ![N, 1]⟩ ⟨3, ![R, C, 1]⟩ ⟨3, ![R, C, 1]⟩ where
  offsetDims := [2]
  collapsedSliceDims := [0]
  operandBatchingDims := []
  startIndicesBatchingDims := []
  startIndexMap := [0]
  indexVectorDim := 2
  sliceSizes := ![1, 1]
  wf := wf

/-- That lookup at one entry: the column's element at the row number, read signed and clamped. -/
theorem gather_column {N R C w : Nat} (hN : 0 < N)
    (wf : GatherDims.WF ⟨2, ![N, 1]⟩ ⟨3, ![R, C, 1]⟩ ⟨3, ![R, C, 1]⟩ [2] [0] [] [0] [] 2 ![1, 1])
    (x : (⟨2, ![N, 1]⟩ : Shape).Idx → α) (idx : IVec ⟨3, ![R, C, 1]⟩ w) (a : Fin R) (b : Fin C) :
    Host.gather (columnDims N R C wf) x idx (ix3 a b 0)
      = x (ix2 ⟨min (idx (takeIdx (ix2 a b))).toInt.toNat (N - 1), by omega⟩ 0) := by
  refine congrArg x (funext fun d => ?_)
  match d with
  | ⟨1, _⟩ => exact Subsingleton.elim (α := Fin 1) _ _
  | ⟨0, _⟩ =>
    refine Fin.ext ?_
    show (columnDims N R C wf).start (ix3 a b 0) idx 0 + (columnDims N R C wf).batchCoord (ix3 a b 0) 0
      + (columnDims N R C wf).offCoord (ix3 a b 0) 0 = _
    have hk : (0 : Fin 2) ∈ (columnDims N R C wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl)),
      Nat.add_zero, GatherDims.start, dif_pos hk]
    refine congrArg (fun k : (⟨3, ![R, C, 1]⟩ : Shape).Idx => min (idx k).toInt.toNat (N - 1)) (funext fun e => ?_)
    match e with
    | ⟨0, _⟩ => rfl
    | ⟨1, _⟩ => rfl
    | ⟨2, _⟩ => rfl

end Column

/-- Dropping the last axis of one element reads the entry of the same row and column. -/
theorem drop1_apply {α : Type} (x : Rows1.Idx → α) (h : Rows1.ShapeCasts Rows) (a : Fin 4096) (b : Fin 200) :
    shapeCast Rows x h (ix2 a b) = x (ix3 a b 0) :=
  congrArg x (Shape.reshapeEquiv_eq_of_vals h _ _ _ _ (rowMajor_val3 _ 200 1 rfl rfl) (rowMajor_val2 _ 200 rfl)
    (by show a.val * 200 + b.val * 1 + 0 = a.val * 200 + b.val; omega))

/-- Dropping the table's last axis reads the row's one element. -/
theorem dropTable_apply {α : Type} (x : (⟨2, ![1000000, 1]⟩ : Shape).Idx → α)
    (h : (⟨2, ![1000000, 1]⟩ : Shape).ShapeCasts ⟨1, ![1000000]⟩) (a : Fin 1000000) :
    shapeCast ⟨1, ![1000000]⟩ x h (ix1 a) = x (ix2 a 0) :=
  congrArg x (Shape.reshapeEquiv_eq_of_vals h _ _ _ _ (rowMajor_val2 _ 1 rfl) (rowMajor_val1 _)
    (by show a.val * 1 + 0 = a.val; omega))

end Cert.Proof

end
-- ==== Proof.KerHost.lean ====
/- What the kernel is handed for its factors: the looked-up entries of the table, laid out in pairs of rows. -/
module

public import proofs.«01_k».proof.Proof.Gen.KernelIdeal.Frame
public import Idealize.ShloMosaic.Lib.Pipeline.Value
public import proofs.«01_k».proof.Proof.Line
public import proofs.«01_k».proof.Proof.Take

@[expose] public section

set_option maxRecDepth 8192

noncomputable section

namespace Cert.Proof

open Idealize.ShloMosaic Idealize.ShloMosaic.StableHlo Idealize.ShloMosaic.TcCoe Idealize.SL.Sem Cert.KernelIdeal Cert.KernelIdeal.Gen
open Idealize.ShloMosaic.ValueIdx (gather_take_apply)

/-- The kernel's lookup, in the table without its last axis. -/
def hostTaken (T : S1000000.Idx → EReal) (c : IVec S4096x200 32) : S4096x200.Idx → EReal :=
  select (inRange c) (Host.gather gather_S1000000_S4096x200x1_S4096x200_n_0_n_n_0_2_1 T (rowNumbers c)) (fun _ => lit 0x7FC00000#32)

/-- It is the lookup in the table. -/
theorem hostTaken_eq (T : S1000000x1.Idx → EReal) (c : IVec S4096x200 32) :
    hostTaken (shapeCast S1000000 T shapeCasts_S1000000x1_S1000000) c = lookup T c := by
  refine funext fun y => ?_
  have e : Host.gather gather_S1000000_S4096x200x1_S4096x200_n_0_n_n_0_2_1 (shapeCast S1000000 T shapeCasts_S1000000x1_S1000000)
      (rowNumbers c) y = rowOf T c y :=
    (gather_take_apply (by decide) _ _ (rowNumbers c) y).trans (dropTable_apply T _ _)
  rw [lookup, ← e]
  rfl

/-- The contents of a device's buffers. -/
abbrev KVal := Valuation τ sig (Elt Ideal)

/-- The first operation drops the table's last axis. -/
theorem first_run (W : KVal) (T : S1000000x1.Idx → EReal) (hT : W (Proc.devRef .tc main_arg2) = T) :
    after (hostOps0 (F := Ideal)) W (Proc.devRef .tc main_v0) = shapeCast S1000000 T shapeCasts_S1000000x1_S1000000 := by
  unfold hostOps0
  after_results_simp
  rw [hT]
  rfl

/-- It keeps the row numbers. -/
theorem first_kept (W : KVal) : after (hostOps0 (F := Ideal)) W (Proc.devRef .tc main_arg0) = W (Proc.devRef .tc main_arg0) := by
  unfold hostOps0
  after_results_simp

/-- The lookup's operations. -/
theorem lookup_run (W : KVal) (T : S1000000.Idx → EReal) (c : IVec S4096x200 32)
    (hT : W (Proc.devRef .tc main_v0) = T) (hc : W (Proc.devRef .tc main_arg0) = c) :
    after (hostOps0_1 (F := Ideal)) W (Proc.devRef .tc main_v1) = hostTaken T c := by
  unfold hostOps0_1
  dsimp only [main_call0_call0]
  after_results_simp
  try simp only [TRef.ofBuf_toBuf]
  simp only [hT, hc]
  have ec : (TRef.of main_arg0 : TRef sig ⟨S4096x200, .i32⟩).ofBuf (Val := Elt Ideal) c = c := rfl
  have eT : (TRef.of main_v0 : TRef sig ⟨S1000000, .f32⟩).ofBuf (Val := Elt Ideal) T = T := rfl
  simp only [ec, eT]
  refine cast_eq_iff_heq.mpr (heq_of_eq ?_)
  unfold hostTaken inRange rowNumbers
  rfl

/-- The last two operations lay the entries out. -/
theorem layout_run (W : KVal) (X : S4096x200.Idx → EReal) (hX : W (Proc.devRef .tc main_v1) = X) :
    after (hostOps0_2 (F := Ideal)) W (Proc.devRef .tc main_v3)
      = transpose S256x1600x2 [0, 2, 1] (shapeCast S256x2x1600 X shapeCasts_S4096x200_S256x2x1600) transposes_S256x2x1600_S256x1600x2_0_2_1 := by
  unfold hostOps0_2
  after_results_simp
  rw [hX]
  rfl

/-- The layout at an entry. -/
theorem layout_apply (X : S4096x200.Idx → EReal) (g : Fin 256) (r : Fin 1600) (k : Fin 2) (a : Fin 4096) (p : Fin 200)
    (h : g.val * 3200 + k.val * 1600 + r.val = a.val * 200 + p.val) :
    transpose S256x1600x2 [0, 2, 1] (shapeCast S256x2x1600 X shapeCasts_S4096x200_S256x2x1600) transposes_S256x2x1600_S256x1600x2_0_2_1
      (ix3 g r k) = X (ix2 a p) := by
  have e : transpose S256x1600x2 [0, 2, 1] (shapeCast S256x2x1600 X shapeCasts_S4096x200_S256x2x1600) transposes_S256x2x1600_S256x1600x2_0_2_1
      (ix3 g r k) = shapeCast S256x2x1600 X shapeCasts_S4096x200_S256x2x1600 (ix3 g k r) := by
    refine congrArg (shapeCast S256x2x1600 X shapeCasts_S4096x200_S256x2x1600) (funext fun d => ?_)
    match d with
    | ⟨0, _⟩ => rfl
    | ⟨1, _⟩ => rfl
    | ⟨2, _⟩ => rfl
  rw [e]
  exact congrArg X (Shape.reshapeEquiv_eq_of_vals _ _ _ _ _ (rowMajor_val2 _ 200 rfl) (rowMajor_val3 _ 3200 1600 rfl rfl) h.symm)

/-- The kernel's factors, before the exponential, at an entry. -/
theorem handed_apply (m : (ℓ : Loc nD τ sig) → Buf (Elt Ideal) ℓ) (d : Dev nD) (T : S1000000x1.Idx → EReal) (c : IVec S4096x200 32)
    (hT : m ((d : Thread nD τ).loc main_arg2) = T) (hc : m ((d : Thread nD τ).loc main_arg0) = c)
    (g : Fin 256) (r : Fin 1600) (k : Fin 2) (a : Fin 4096) (p : Fin 200) (h : g.val * 3200 + k.val * 1600 + r.val = a.val * 200 + p.val) :
    V m d (Pipeline.arrRef spec0 0) (ix3 g r k) = lookup T c (ix2 a p) := by
  have e : V m d main_v3 = transpose S256x1600x2 [0, 2, 1] (shapeCast S256x2x1600 (lookup T c) shapeCasts_S4096x200_S256x2x1600)
      transposes_S256x2x1600_S256x1600x2_0_2_1 := by
    show after (List.flatten [hostOps0, hostOps0_1, hostOps0_2]) (fun b => m (d, b)) (Proc.devRef .tc main_v3) = _
    rw [List.flatten_cons, List.flatten_cons, List.flatten_cons, List.flatten_nil, List.append_nil, after_append', after_append']
    refine layout_run _ _ ?_
    rw [← hostTaken_eq]
    exact lookup_run _ _ _ (first_run _ _ hT) ((first_kept _).trans hc)
  exact (congrFun e (ix3 g r k)).trans (layout_apply _ g r k a p h)

end Cert.Proof

end
-- ==== Proof.RefThreefry.lean ====
/- The reference's cipher: the four printed parts of its body, each run as one line of operations, and their composition. -/
module

public import proofs.«01_k».proof.Proof.Line
public import proofs.«01_k».proof.Proof.Spec
public import proofs.«01_k».proof.Defs

@[expose] public section

set_option maxRecDepth 8192
set_option maxHeartbeats 4000000

noncomputable section

namespace Cert.Proof

open Idealize.ShloMosaic Idealize.ShloMosaic.StableHlo Idealize.SL.Sem Cert.ReferenceIdeal

variable [Cert.ReferenceIdeal.Facts]

/-- The contents of the reference's buffers. -/
abbrev RVal := Valuation τ sig (Elt Ideal)

/-- A 32-bit word at each entry of the noise. -/
abbrev Words := IVec S4096x200x64 32

/-- The key words and the counters are where the cipher reads them. -/
structure Keyed (V : RVal) (k0 k1 : BitVec 32) : Prop where
  h0 : V (Proc.devRef .tc main_call1_v5) = fun _ => k0
  h1 : V (Proc.devRef .tc main_call1_v7) = fun _ => k1

/-- Part 0 of the cipher: the first injection, four rounds, the second injection, a round and the sum of the next. -/
theorem part0 (V : RVal) (k0 k1 : BitVec 32) (x y : Words) (hk : Keyed V k0 k1)
    (hx : V (Proc.devRef .tc main_call1_v22) = x) (hy : V (Proc.devRef .tc main_call1_v21) = y) :
    Line (fn_threefry2x32.body_part0 (F := Ideal) main_call1.v5 main_call1.v7 main_call1.v22 main_call1.v21 main_call1.call0) V fun W =>
      Same 67 V W ∧ (W (Proc.devRef .tc main_call1_call0_v47) = fun i => (add2 (mix 17 15 (inject k1 (key2 k0 k1) 1 (mixA (x i + k0, y i + k1))))).1)
        ∧ (W (Proc.devRef .tc main_call1_call0_v46) = fun i => (add2 (mix 17 15 (inject k1 (key2 k0 k1) 1 (mixA (x i + k0, y i + k1))))).2)
        ∧ W (Proc.devRef .tc main_call1_call0_v1) = fun _ => key2 k0 k1 := by
  obtain ⟨h0, h1⟩ := hk
  dsimp only [fn_threefry2x32.body_part0, main_call1, main_call1_call0]
  refine Line.intro (by repeat (first | exact IsSeq.nil | exact IsSeq.last | apply IsSeq.cons)) (by simp) (by rfl)
    (by simp only [List.Forall]; and_intros; all_goals exact ⟨_, rfl, rfl, by decide⟩) ?_
  and_intros
  all_goals
    after_results_simp
    simp only [TRef.ofBuf_toBuf]
    try simp only [h0, h1, hx, hy]
    rfl

/-- Part 1 of the cipher: the rest of the round, two rounds, an injection, three rounds. -/
theorem part1 (V : RVal) (k0 k1 : BitVec 32) (x y : Words) (hk : Keyed V k0 k1)
    (h2 : V (Proc.devRef .tc main_call1_call0_v1) = fun _ => key2 k0 k1)
    (hx : V (Proc.devRef .tc main_call1_call0_v47) = x) (hy : V (Proc.devRef .tc main_call1_call0_v46) = y) :
    Line (fn_threefry2x32.body_part1 (F := Ideal) main_call1.v5 main_call1.v7 main_call1.v22 main_call1.v21 main_call1.call0) V fun W =>
      Same 127 V W ∧ (W (Proc.devRef .tc main_call1_call0_v88) = fun i => (mix 26 6 (mix 15 17 (mix 13 19 (inject (key2 k0 k1) k0 2 (mix 24 8 (mix 16 16 (rot2 29 3 (x i, y i)))))))).1)
        ∧ (W (Proc.devRef .tc main_call1_call0_v94) = fun i => (mix 26 6 (mix 15 17 (mix 13 19 (inject (key2 k0 k1) k0 2 (mix 24 8 (mix 16 16 (rot2 29 3 (x i, y i)))))))).2) := by
  obtain ⟨h0, h1⟩ := hk
  dsimp only [fn_threefry2x32.body_part1, main_call1, main_call1_call0]
  refine Line.intro (by repeat (first | exact IsSeq.nil | exact IsSeq.last | apply IsSeq.cons)) (by simp) (by rfl)
    (by simp only [List.Forall]; and_intros; all_goals exact ⟨_, rfl, rfl, by decide⟩) ?_
  and_intros
  all_goals
    after_results_simp
    simp only [TRef.ofBuf_toBuf]
    try simp only [h0, h1, h2, hx, hy]
    rfl

/-- Part 2 of the cipher: a round, an injection, four rounds, an injection and the sum of the next round. -/
theorem part2 (V : RVal) (k0 k1 : BitVec 32) (x y : Words) (hk : Keyed V k0 k1)
    (h2 : V (Proc.devRef .tc main_call1_call0_v1) = fun _ => key2 k0 k1)
    (hx : V (Proc.devRef .tc main_call1_call0_v88) = x) (hy : V (Proc.devRef .tc main_call1_call0_v94) = y) :
    Line (fn_threefry2x32.body_part2 (F := Ideal) main_call1.v5 main_call1.v7 main_call1.v22 main_call1.v21 main_call1.call0) V fun W =>
      Same 187 V W ∧ (W (Proc.devRef .tc main_call1_call0_v142) = fun i => (add2 (inject k1 (key2 k0 k1) 4 (mixB (inject k0 k1 3 (mix 6 26 (x i, y i)))))).1)
        ∧ (W (Proc.devRef .tc main_call1_call0_v141) = fun i => (add2 (inject k1 (key2 k0 k1) 4 (mixB (inject k0 k1 3 (mix 6 26 (x i, y i)))))).2) := by
  obtain ⟨h0, h1⟩ := hk
  dsimp only [fn_threefry2x32.body_part2, main_call1, main_call1_call0]
  refine Line.intro (by repeat (first | exact IsSeq.nil | exact IsSeq.last | apply IsSeq.cons)) (by simp) (by rfl)
    (by simp only [List.Forall]; and_intros; all_goals exact ⟨_, rfl, rfl, by decide⟩) ?_
  and_intros
  all_goals
    after_results_simp
    simp only [TRef.ofBuf_toBuf]
    try simp only [h0, h1, h2, hx, hy]
    rfl

/-- Part 3 of the cipher: the rest of the round, three rounds, the last injection. -/
theorem part3 (V : RVal) (k0 k1 : BitVec 32) (x y : Words) (hk : Keyed V k0 k1)
    (h2 : V (Proc.devRef .tc main_call1_call0_v1) = fun _ => key2 k0 k1)
    (hx : V (Proc.devRef .tc main_call1_call0_v142) = x) (hy : V (Proc.devRef .tc main_call1_call0_v141) = y) :
    Line (fn_threefry2x32.body_part3 (F := Ideal) main_call1.v5 main_call1.v7 main_call1.v22 main_call1.v21 main_call1.call0) V fun W =>
      Same 247 V W ∧ (W (Proc.devRef .tc main_call1_v23_0) = fun i => (inject (key2 k0 k1) k0 5 (mix 6 26 (mix 26 6 (mix 15 17 (rot2 13 19 (x i, y i)))))).1)
        ∧ (W (Proc.devRef .tc main_call1_v23_1) = fun i => (inject (key2 k0 k1) k0 5 (mix 6 26 (mix 26 6 (mix 15 17 (rot2 13 19 (x i, y i)))))).2) := by
  obtain ⟨h0, h1⟩ := hk
  dsimp only [fn_threefry2x32.body_part3, main_call1, main_call1_call0]
  refine Line.intro (by repeat (first | exact IsSeq.nil | exact IsSeq.last | apply IsSeq.cons)) (by simp) (by rfl)
    (by simp only [List.Forall]; and_intros; all_goals exact ⟨_, rfl, rfl, by decide⟩) ?_
  and_intros
  all_goals
    after_results_simp
    simp only [TRef.ofBuf_toBuf]
    try simp only [h0, h1, h2, hx, hy]
    rfl

/-- Buffers kept are keyed still. -/
theorem Keyed.mono {V W : RVal} {k0 k1 : BitVec 32} (h : Keyed V k0 k1) {n : Nat} (hs : Same n V W) (hn : 67 ≤ n) : Keyed W k0 k1 :=
  ⟨(hs _ rfl (lt_of_lt_of_le (by decide) hn)).trans h.h0, (hs _ rfl (lt_of_lt_of_le (by decide) hn)).trans h.h1⟩

/-- The cipher's whole body leaves the two cipher words of each entry's counter. -/
theorem cipher_run (V : RVal) (k0 k1 : BitVec 32) (x y : Words) (hk : Keyed V k0 k1)
    (hx : V (Proc.devRef .tc main_call1_v22) = x) (hy : V (Proc.devRef .tc main_call1_v21) = y) :
    Line (fn_threefry2x32.body (F := Ideal) main_call1.v5 main_call1.v7 main_call1.v22 main_call1.v21 main_call1.call0) V fun W =>
      Same 67 V W ∧ (W (Proc.devRef .tc main_call1_v23_0) = fun i => (threefry k0 k1 (key2 k0 k1) (x i, y i)).1)
        ∧ (W (Proc.devRef .tc main_call1_v23_1) = fun i => (threefry k0 k1 (key2 k0 k1) (x i, y i)).2) := by
  unfold fn_threefry2x32.body
  refine Line.bind ((part0 V k0 k1 x y hk hx hy).mono fun W0 ⟨s0, a0, b0, c0⟩ => ?_)
  refine Line.bind ((part1 W0 k0 k1 _ _ (hk.mono s0 (by decide)) c0 a0 b0).mono fun W1 ⟨s1, a1, b1⟩ => ?_)
  have c1 := (s1 main_call1_call0_v1 rfl (by decide)).trans c0
  refine Line.bind ((part2 W1 k0 k1 _ _ ((hk.mono s0 (by decide)).mono s1 (by decide)) c1 a1 b1).mono fun W2 ⟨s2, a2, b2⟩ => ?_)
  have c2 := (s2 main_call1_call0_v1 rfl (by decide)).trans c1
  refine (part3 W2 k0 k1 _ _ (((hk.mono s0 (by decide)).mono s1 (by decide)).mono s2 (by decide)) c2 a2 b2).mono
    fun W3 ⟨s3, a3, b3⟩ => ⟨?_, a3, b3⟩
  exact ((s0.trans s1 (by decide)).trans s2 (by decide)).trans s3 (by decide)

end Cert.Proof

end
-- ==== Proof.RefUniform.lean ====
/- The reference's draw from [0, 1): the counters, the cipher, and the number made of the cipher's words. -/
module

public import proofs.«01_k».proof.Proof.RefThreefry
public import proofs.«01_k».proof.Proof.Draw

@[expose] public section

set_option maxRecDepth 8192
set_option maxHeartbeats 4000000

noncomputable section

namespace Cert.Proof

open Idealize.ShloMosaic Idealize.ShloMosaic.StableHlo Idealize.SL.Sem Cert.ReferenceIdeal

variable [Cert.ReferenceIdeal.Facts]

/-- The reference's counter of an entry, on 64 bits: its position in row-major order. -/
def count64 (i : S4096x200x64.Idx) : BitVec 64 :=
  12800#64 * BitVec.ofNat 64 (i 0).val + 64#64 * BitVec.ofNat 64 (i 1).val + 1#64 * BitVec.ofNat 64 (i 2).val

/-- The reference's draw from the interval between two ends, of a number in [0, 1). -/
def between (a b f : EReal) : EReal := max a (f * (b - a) + a)

/-- The host's shift of a 64-bit word by 32. -/
theorem shift32 (x : BitVec 64) : IntOp.shrui .host x 32#64 = x >>> 32#64 := if_pos (by decide)

/-- The host's shift of a 32-bit word by 9. -/
theorem shift9 (x : BitVec 32) : IntOp.shrui .host x 9#32 = x >>> 9#32 := if_pos (by decide)

/-- The uniform draw's whole body, under the key words 0 and 42 and between the ends `a` and `b`. -/
theorem uniform_run (V : RVal) (a b : EReal) (h0 : ∀ i, (extractStridedSlice S1 ![0] (V (Proc.devRef .tc main_v9) : IVec S2 32) Facts₀.slices_S2_S1_0) i = 0#32)
    (h1 : ∀ i, (extractStridedSlice S1 ![1] (V (Proc.devRef .tc main_v9) : IVec S2 32) Facts₀.slices_S2_S1_1) i = 42#32)
    (ha : V (Proc.devRef .tc main_cst) = fun _ => a) (hb : V (Proc.devRef .tc main_cst_2) = fun _ => b) :
    Line (fn_uniform.body (F := Ideal) (.of main_v9) (.of main_cst) (.of main_cst_2) main_call1) V fun W =>
      Same 40 V W ∧ W (Proc.devRef .tc main_v10)
        = fun i => between a b (unit01 (drawBits (BitVec.setWidth 32 (count64 i >>> 32#64), BitVec.setWidth 32 (count64 i)))) := by
  dsimp only [fn_uniform.body, main_call1]
  refine Line.pre (n := 40) (P := fun W => Keyed W 0 42
      ∧ W (Proc.devRef .tc main_call1_v22) = (fun i => BitVec.setWidth 32 (count64 i >>> 32#64))
      ∧ W (Proc.devRef .tc main_call1_v21) = (fun i => BitVec.setWidth 32 (count64 i))
      ∧ W (Proc.devRef .tc main_call1_v2) = (fun _ => a) ∧ W (Proc.devRef .tc main_call1_v3) = (fun _ => b))
    (by repeat with_reducible apply pre_cons
        exact pre_nil) (by simp) (by rfl)
    (by simp only [List.Forall]; and_intros; all_goals exact ⟨_, rfl, rfl, by decide⟩) ?_ ?_
  · refine ⟨⟨?_, ?_⟩, ?_⟩
    · after_results_simp
      try simp only [TRef.ofBuf_toBuf]
      funext i
      exact h0 _
    · after_results_simp
      try simp only [TRef.ofBuf_toBuf]
      funext i
      exact h1 _
    · and_intros
      · after_results_simp
        simp only [TRef.ofBuf_toBuf]
        refine funext fun i => Eq.trans ?_ (congrArg (BitVec.setWidth 32) (shift32 (count64 i)))
        rfl
      · after_results_simp
        simp only [TRef.ofBuf_toBuf]
        rfl
      · after_results_simp
        try simp only [TRef.ofBuf_toBuf, ha]
        rfl
      · after_results_simp
        try simp only [TRef.ofBuf_toBuf, hb]
        rfl
  · rintro W hs ⟨hk, hhi, hlo, ha', hb'⟩
    refine Line.bind ((cipher_run W 0 42 _ _ hk hhi hlo).mono fun W' ⟨hs', hx, hy⟩ => ?_)
    have ha'' := (hs' main_call1_v2 rfl (by decide)).trans ha'
    have hb'' := (hs' main_call1_v3 rfl (by decide)).trans hb'
    obtain ⟨x, ex, dx⟩ : ∃ x : Words, W' (Proc.devRef .tc main_call1_v23_0) = x ∧ x = _ := ⟨_, rfl, hx⟩
    obtain ⟨y, ey, dy⟩ : ∃ y : Words, W' (Proc.devRef .tc main_call1_v23_1) = y ∧ y = _ := ⟨_, rfl, hy⟩
    clear hx hy
    refine (Line.intro (n := 40) (Q := fun X => X (Proc.devRef .tc main_v10) = fun i => between a b (unit01 (x i ^^^ y i)))
      (by repeat (first | exact IsSeq.nil | exact IsSeq.last | apply IsSeq.cons)) (by simp) (by rfl)
      (by simp only [List.Forall]; and_intros; all_goals exact ⟨_, rfl, rfl, by decide⟩) ?_).mono
      fun X ⟨hX, hv⟩ => ⟨(hs.trans hs' (by decide)).trans hX (by decide), by rw [hv, dx, dy]; rfl⟩
    clear dx dy
    after_results_simp
    simp only [TRef.ofBuf_toBuf]
    simp only [ha'', hb'', ex, ey]
    refine funext fun i => Eq.trans ?_ (congrArg (fun t => between a b (lit (t ||| 1065353216#32) - lit 0x3F800000#32)) (shift9 (x i ^^^ y i)))
    rfl

end Cert.Proof

end
-- ==== Proof.RefMain.lean ====
/- The reference from its arguments to its result: the table's lookup, the key, the draw, the inverse error function. -/
module

public import proofs.«01_k».proof.Proof.RefUniform
public import proofs.«01_k».proof.Proof.Take
public import Idealize.ShloMosaic.Lib.Pipeline.Value

@[expose] public section

set_option maxRecDepth 8192
set_option maxHeartbeats 1000000

noncomputable section

namespace Cert.Proof

open Idealize.ShloMosaic Idealize.ShloMosaic.StableHlo Idealize.SL.Sem Cert.ReferenceIdeal

variable [Cert.ReferenceIdeal.Facts]

/-- The lookup's array, as the reference's operations make it. -/
def taken (T : S1000000x1.Idx → EReal) (c : IVec S4096x200 32) : S4096x200x1.Idx → EReal :=
  select (broadcastInDim S4096x200x1 ![0, 1] Facts₀.bcast_S4096x200_S4096x200x1_0_1 (inRange c))
    (Host.gather gather_S1000000x1_S4096x200x1_S4096x200x1_2_0_n_n_0_2_11 T (rowNumbers c)) (fun _ => lit 0x7FC00000#32)

/-- The lookup's body: every row of the table that is asked for, or the not-a-number pattern. -/
theorem take_run (V : RVal) (T : S1000000x1.Idx → EReal) (c : IVec S4096x200 32)
    (hT : V (Proc.devRef .tc main_arg2) = T) (hc : V (Proc.devRef .tc main_arg0) = c) :
    Line (fn_take.body (F := Ideal) (.of main_arg2) (.of main_arg0) main_call0) V fun W =>
      Same 3 V W ∧ W (Proc.devRef .tc main_v0) = taken T c := by
  dsimp only [fn_take.body, fn_where.body, main_call0, main_call0_call0]
  simp only [bind_assoc, pure_bind]
  refine Line.intro (by repeat (first | exact IsSeq.nil | exact IsSeq.last | apply IsSeq.cons)) (by simp) (by rfl)
    (by simp only [List.Forall]; and_intros; all_goals exact ⟨_, rfl, rfl, by decide⟩) ?_
  after_results_simp
  simp only [TRef.ofBuf_toBuf]
  simp only [hT, hc]
  have ec : (TRef.of main_arg0 : TRef sig ⟨S4096x200, .i32⟩).ofBuf (Val := Elt Ideal) c = c := rfl
  have eT : (TRef.of main_arg2 : TRef sig ⟨S1000000x1, .f32⟩).ofBuf (Val := Elt Ideal) T = T := rfl
  simp only [ec, eT]
  refine cast_eq_iff_heq.mpr (heq_of_eq ?_)
  unfold taken inRange rowNumbers
  rfl

/-- A reference entry's row and column of the row numbers. -/
def rowCol (i : S4096x200x64.Idx) : Rows.Idx := ix2 (i 0) (i 1)

/-- The looked-up entries, the exponential taken. -/
def sigma (T : S1000000x1.Idx → EReal) (c : IVec S4096x200 32) (y : Rows.Idx) : EReal := Ideal.exp (lookup T c y)

/-- The lookup at one entry, its last axis dropped. -/
theorem taken_apply (T : S1000000x1.Idx → EReal) (c : IVec S4096x200 32) (a : Fin 4096) (b : Fin 200) :
    taken T c (ix3 a b 0) = lookup T c (ix2 a b) := by
  have e1 : Host.gather gather_S1000000x1_S4096x200x1_S4096x200x1_2_0_n_n_0_2_11 T (rowNumbers c) (ix3 a b 0) = rowOf T c (ix2 a b) :=
    gather_column (by decide) _ T (rowNumbers c) a b
  have e2 : broadcastInDim S4096x200x1 ![0, 1] Facts₀.bcast_S4096x200_S4096x200x1_0_1 (inRange c) (ix3 a b 0) = inRange c (ix2 a b) := by
    refine congrArg (inRange c) (funext fun d => ?_)
    match d with
    | ⟨0, _⟩ => rfl
    | ⟨1, _⟩ => rfl
  rw [taken, lookup, ← e1, ← e2]
  rfl

/-- The lookup's array, its last axis dropped. -/
theorem taken_drop (T : S1000000x1.Idx → EReal) (c : IVec S4096x200 32) :
    (fun i => shapeCast (s := main_v0.ty.shape) main_v1.ty.shape (taken T c) Facts₀.shapeCasts_S4096x200x1_S4096x200 i) = lookup T c := by
  refine funext fun y => ?_
  obtain ⟨a, b, rfl⟩ : ∃ a b, y = ix2 a b := ⟨y 0, y 1, eq_ix2 y⟩
  exact (drop1_apply (taken T c) Facts₀.shapeCasts_S4096x200x1_S4096x200 a b).trans (taken_apply T c a b)

/-- Every entry's draw of [0, 1). -/
def draws (i : S4096x200x64.Idx) : EReal := between (lit 0#32) (lit 0x3F800000#32)
  (unit01 (drawBits (BitVec.setWidth 32 (count64 i >>> 32#64), BitVec.setWidth 32 (count64 i))))

/-- The contents in the middle of the program, by the draws `X` and the factors `σ`: the arguments, which polynomial applies, its
    variable, and three steps of its Horner scheme. -/
structure Half (X : S4096x200x64.Idx → EReal) (σ : Rows.Idx → EReal) (W : RVal) : Prop where
  factor : W (Proc.devRef .tc main_v2) = σ
  arg : W (Proc.devRef .tc main_v16) = fun i => argument (X i)
  which : W (Proc.devRef .tc main_v22) = fun i => near (depth (argument (X i)))
  var : W (Proc.devRef .tc main_v28) = fun i => shifted (depth (argument (X i)))
  poly : W (Proc.devRef .tc main_v39) = fun i => horner 3 (near (depth (argument (X i)))) (shifted (depth (argument (X i))))
  coeff : W (Proc.devRef .tc main_cst_17) = fun _ => lit 0x396532DB#32

/-- The argument's operations on whole arrays. -/
theorem argument_run (X : S4096x200x64.Idx → EReal) :
    maximumf (F := Ideal) (φ := .f32) (broadcastInDim S4096x200x64 ![] Facts₀.bcast_S_S4096x200x64 (constant S_ .f32 0xBF7FFFFF#32))
        (addf (mulf X (broadcastInDim S4096x200x64 ![] Facts₀.bcast_S_S4096x200x64 (constant S_ .f32 0x40000000#32)))
          (broadcastInDim S4096x200x64 ![] Facts₀.bcast_S_S4096x200x64 (constant S_ .f32 0xBF7FFFFF#32)))
      = fun i => argument (X i) := rfl

/-- The draw, then the rest of the program's first part. -/
theorem draw_run (V : RVal) (T : S1000000x1.Idx → EReal) (c : IVec S4096x200 32)
    (hT : V (Proc.devRef .tc main_arg2) = T) (hc : V (Proc.devRef .tc main_arg0) = c) (d : Dev nD) :
    Line (main_part0 (F := Ideal) d) V fun W => Same 3 V W ∧ Half draws (sigma T c) W := by
  unfold main_part0
  refine Line.bind ((take_run V T c hT hc).mono fun W0 ⟨s0, e0⟩ => ?_)
  refine Line.pre (n := 26) (P := fun W => W (Proc.devRef .tc main_v2) = (fun y => sigma T c y)
      ∧ W (Proc.devRef .tc main_v5) = (fun _ => 0#32 : IVec S1 32) ∧ W (Proc.devRef .tc main_v8) = (fun _ => 42#32 : IVec S1 32))
    (by iterate 11 with_reducible apply pre_cons
        exact pre_nil) (by simp) (by rfl)
    (by simp only [List.Forall]; and_intros; all_goals exact ⟨_, rfl, rfl, by decide⟩) ?_ ?_
  · and_intros
    · after_results_simp
      rw [e0]
      have e := taken_drop T c
      have eσ : (fun y => sigma T c y) = fun y => Ideal.exp (lookup T c y) := rfl
      rw [eσ, ← e]
      generalize taken T c = X
      rfl
    · after_results_simp
      exact funext fun i => (show IntOp.shrui .host 42#32 32#32 = 0#32 by decide)
    · after_results_simp
      exact funext fun i => (show 42#32 &&& 4294967295#32 = 42#32 by decide)
  rintro W1 s1 ⟨h2, h5, h8⟩
  refine Line.pre (n := 37) (P := fun W =>
      (∀ i, (extractStridedSlice S1 ![0] (W (Proc.devRef .tc main_v9) : IVec S2 32) Facts₀.slices_S2_S1_0) i = 0#32)
      ∧ (∀ i, (extractStridedSlice S1 ![1] (W (Proc.devRef .tc main_v9) : IVec S2 32) Facts₀.slices_S2_S1_1) i = 42#32)
      ∧ W (Proc.devRef .tc main_cst) = (fun _ => lit 0#32) ∧ W (Proc.devRef .tc main_cst_2) = (fun _ => lit 0x3F800000#32))
    (by iterate 3 with_reducible apply pre_cons
        exact pre_nil) (by simp) (by rfl)
    (by simp only [List.Forall]; and_intros; all_goals exact ⟨_, rfl, rfl, by decide⟩) ?_ ?_
  · and_intros
    · after_results_simp
      rw [h5, h8]
      intro i
      refine concatenate_pair_apply_left (s₁ := S1) (s₂ := S1) (t := S2) 0 _ _ _ _ rfl i fun b => ?_
      obtain rfl : b = 0 := Subsingleton.elim _ _
      exact (Nat.zero_add _).symm
    · after_results_simp
      rw [h5, h8]
      intro i
      refine concatenate_pair_apply_right (s₁ := S1) (s₂ := S1) (t := S2) 0 _ _ _ _ rfl rfl i (fun b hb => ?_) (Nat.add_comm _ _)
      exact absurd (Subsingleton.elim _ _) hb
    · after_results_simp
      rfl
    · after_results_simp
      rfl
  rintro W hs ⟨k0, k1, ha, hb⟩
  refine Line.bind ((uniform_run W _ _ k0 k1 ha hb).mono fun W' ⟨hs', hx⟩ => ?_)
  have h2' := ((hs' main_v2 rfl (by decide)).trans (hs main_v2 rfl (by decide))).trans h2
  have hk : Same 3 V W' := ((s0.trans s1 (by decide)).trans hs (by decide)).trans hs' (by decide)
  have hx : W' (Proc.devRef .tc main_v10) = draws := hx
  generalize draws = X at hx ⊢
  clear h2 h5 h8 k0 k1 ha hb e0 hc hT
  have h2' : W' (Proc.devRef .tc main_v2) = sigma T c := h2'
  generalize sigma T c = σ at h2' ⊢
  dsimp only [fn_where_0.body, fn_where_1.body, fn_where_2.body, main_call2, main_call3, main_call4, main_call5, main_call6]
  simp only [bind_assoc, pure_bind]
  refine Line.pre (n := 307) (P := fun W => W (Proc.devRef .tc main_v16) = fun i => argument (X i))
    (by iterate 9 with_reducible apply pre_cons
        exact pre_nil) (by simp) (by rfl)
    (by simp only [List.Forall]; and_intros; all_goals exact ⟨_, rfl, rfl, by decide⟩) ?_ ?_
  · after_results_simp
    rw [hx]
    exact argument_run X
  intro W5 s5 e5
  obtain ⟨v, ev, dv⟩ : ∃ v : S4096x200x64.Idx → EReal, W5 (Proc.devRef .tc main_v16) = v ∧ v = _ := ⟨_, rfl, e5⟩
  refine Line.pre (n := 316) (P := fun W => W (Proc.devRef .tc main_v20) = fun i => depth (v i))
    (by iterate 4 with_reducible apply pre_cons
        exact pre_nil) (by simp) (by rfl)
    (by simp only [List.Forall]; and_intros; all_goals exact ⟨_, rfl, rfl, by decide⟩) ?_ ?_
  · after_results_simp
    rw [ev]
    rfl
  intro W6 s6 e6
  obtain ⟨u, eu, du⟩ : ∃ u : S4096x200x64.Idx → EReal, W6 (Proc.devRef .tc main_v20) = u ∧ u = _ := ⟨_, rfl, e6⟩
  refine Line.pre (n := 320) (P := fun W => W (Proc.devRef .tc main_v22) = fun i => near (u i))
    (by iterate 3 with_reducible apply pre_cons
        exact pre_nil) (by simp) (by rfl)
    (by simp only [List.Forall]; and_intros; all_goals exact ⟨_, rfl, rfl, by decide⟩) ?_ ?_
  · after_results_simp
    rw [eu]
    rfl
  intro W2 s2 e22
  have hk2 := ((hk.trans s5 (by decide)).trans s6 (by decide)).trans s2 (by decide)
  have e2 := ((s2 main_v2 rfl (by decide)).trans ((s6 main_v2 rfl (by decide)).trans (s5 main_v2 rfl (by decide)))).trans h2'
  have e16 := ((s2 main_v16 rfl (by decide)).trans (s6 main_v16 rfl (by decide))).trans ev
  have e20 := (s2 main_v20 rfl (by decide)).trans eu
  obtain ⟨w, ew, dw⟩ : ∃ w : IVec S4096x200x64 1, W2 (Proc.devRef .tc main_v22) = w ∧ w = _ := ⟨_, rfl, e22⟩
  clear hx h2' hs' s1 s0 hs
  refine Line.pre (n := 323) (P := fun W => W (Proc.devRef .tc main_v28) = (fun i => shifted (u i)))
    (by iterate 8 with_reducible apply pre_cons
        exact pre_nil) (by simp) (by rfl)
    (by simp only [List.Forall]; and_intros; all_goals exact ⟨_, rfl, rfl, by decide⟩) ?_ ?_
  · after_results_simp
    try simp only [TRef.ofBuf_toBuf]
    rw [e20, ew, dw]
    rfl
  intro W3 s3 e28
  obtain ⟨x, ex, dx⟩ : ∃ x : S4096x200x64.Idx → EReal, W3 (Proc.devRef .tc main_v28) = x ∧ x = _ := ⟨_, rfl, e28⟩
  have ew3 := (s3 main_v22 rfl (by decide)).trans ew
  refine (Line.intro (n := 331) (Q := fun W => W (Proc.devRef .tc main_v39) = (fun i => horner 3 (w i) (x i))
      ∧ W (Proc.devRef .tc main_cst_17) = (fun _ => lit 0x396532DB#32))
    (by repeat (first | exact IsSeq.nil | exact IsSeq.last | apply IsSeq.cons)) (by simp) (by rfl)
    (by simp only [List.Forall]; and_intros; all_goals exact ⟨_, rfl, rfl, by decide⟩) ?_).mono ?_
  · and_intros
    · after_results_simp
      simp only [TRef.ofBuf_toBuf]
      rw [ex, ew3]
      rfl
    · after_results_simp
      rfl
  rintro W4 ⟨s4, e39, ec⟩
  subst dx dw du dv
  refine ⟨(hk2.trans s3 (by decide)).trans s4 (by decide), ?_, ?_, ?_, ?_, e39, ec⟩
  · exact ((s4 main_v2 rfl (by decide)).trans (s3 main_v2 rfl (by decide))).trans e2
  · exact ((s4 main_v16 rfl (by decide)).trans (s3 main_v16 rfl (by decide))).trans e16
  · exact ((s4 main_v22 rfl (by decide)).trans (s3 main_v22 rfl (by decide))).trans e22
  · exact (s4 main_v28 rfl (by decide)).trans ex

end Cert.Proof

end
-- ==== Proof.RefRun.lean ====
/- The rest of the reference, and its run: what its result holds, and that its arguments are kept. -/
module

public import proofs.«01_k».proof.Proof.RefMain
public import Idealize.ShloMosaic.Lib.Quiescent

@[expose] public section

set_option maxRecDepth 8192
set_option maxHeartbeats 1000000

noncomputable section

namespace Cert.Proof

open Idealize.ShloMosaic Idealize.ShloMosaic.StableHlo Idealize.SL.Sem Cert.ReferenceIdeal

variable [Cert.ReferenceIdeal.Facts]

/-- The reference's entry, from the draw of [0, 1) and the factor. -/
def deviate (f s : EReal) : EReal := lit 0x3FB504F3#32 * erfInv (argument f) * s

/-- The last operations on whole arrays: the choice at the ends, and the products. -/
theorem ends_run (u q : S4096x200x64.Idx → EReal) (σ : Rows.Idx → EReal) :
    mulf (F := Ideal) (φ := .f32) (mulf (broadcastInDim S4096x200x64 ![] Facts₀.bcast_S_S4096x200x64 (constant S_ .f32 0x3FB504F3#32))
        (select (cmpf (F := Ideal) (φ := .f32) .oeq (Host.absf (F := Ideal) (φ := .f32) u)
            (broadcastInDim S4096x200x64 ![] Facts₀.bcast_S_S4096x200x64 (constant S_ .f32 0x3F800000#32)))
          (mulf (F := Ideal) (φ := .f32) u (broadcastInDim S4096x200x64 ![] Facts₀.bcast_S_S4096x200x64 (constant S_ .f32 0x7F800000#32)))
          (mulf (F := Ideal) (φ := .f32) q u)))
      (broadcastInDim S4096x200x64 ![0, 1, 2] Facts₀.bcast_S4096x200x1_S4096x200x64_0_1_2
        (broadcastInDim S4096x200x1 ![0, 1] Facts₀.bcast_S4096x200_S4096x200x1_0_1 σ))
      = fun i => lit 0x3FB504F3#32 * Scalar.select (FloatOps.cmpf (F := Ideal) (φ := .f32) .oeq (max (u i) (-(u i))) (lit 0x3F800000#32))
          (u i * lit 0x7F800000#32) (q i * u i) * σ (rowCol i) := by
  funext i
  have e : (broadcastInDim S4096x200x64 ![0, 1, 2] Facts₀.bcast_S4096x200x1_S4096x200x64_0_1_2
        (broadcastInDim S4096x200x1 ![0, 1] Facts₀.bcast_S4096x200_S4096x200x1_0_1 σ)) i = σ (rowCol i) := by
    refine congrArg σ (funext fun d => ?_)
    match d with
    | ⟨0, _⟩ => rfl
    | ⟨1, _⟩ => rfl
  rw [← e]
  rfl

/-- The program's second part: the other five steps of the scheme, the choice at the ends, and the products. -/
theorem part1_run (V : RVal) (X : S4096x200x64.Idx → EReal) (σ : Rows.Idx → EReal) (hV : Half X σ V) (d : Dev nD) :
    Line (main_part1 (F := Ideal) d) V fun W => Same 3 V W
      ∧ W (Proc.devRef .tc main_v66) = fun i => deviate (X i) (σ (rowCol i)) := by
  obtain ⟨h2, h16, h22, h28, h39, hc⟩ := hV
  obtain ⟨u, eu, du⟩ : ∃ u : S4096x200x64.Idx → EReal, V (Proc.devRef .tc main_v16) = u ∧ u = _ := ⟨_, rfl, h16⟩
  obtain ⟨w, ew, dw⟩ : ∃ w : IVec S4096x200x64 1, V (Proc.devRef .tc main_v22) = w ∧ w = _ := ⟨_, rfl, h22⟩
  obtain ⟨x, ex, dx⟩ : ∃ x : S4096x200x64.Idx → EReal, V (Proc.devRef .tc main_v28) = x ∧ x = _ := ⟨_, rfl, h28⟩
  obtain ⟨p, ep, dp⟩ : ∃ p : S4096x200x64.Idx → EReal, V (Proc.devRef .tc main_v39) = p ∧ p = _ := ⟨_, rfl, h39⟩
  clear h16 h22 h28 h39
  unfold main_part1
  dsimp only [fn_where_0.body, fn_where_2.body, main_call7, main_call8, main_call9, main_call10, main_call11, main_call12]
  simp only [bind_assoc, pure_bind]
  refine Line.pre (n := 359) (P := fun W => W (Proc.devRef .tc main_v54)
      = fun i => ((coeffs.drop 3).foldl (step (w i) (x i)) (p i)))
    (by iterate 34 with_reducible apply pre_cons
        exact pre_nil) (by simp) (by rfl)
    (by simp only [List.Forall]; and_intros; all_goals exact ⟨_, rfl, rfl, by decide⟩) ?_ ?_
  · after_results_simp
    simp only [TRef.ofBuf_toBuf]
    rw [ex, ew, ep, hc]
    rfl
  intro W1 s1 e54
  obtain ⟨q, eq, dq⟩ : ∃ q : S4096x200x64.Idx → EReal, W1 (Proc.devRef .tc main_v54) = q ∧ q = _ := ⟨_, rfl, e54⟩
  have eu1 := (s1 main_v16 rfl (by decide)).trans eu
  have eσ := (s1 main_v2 rfl (by decide)).trans h2
  refine (Line.intro (n := 359) (Q := fun W => W (Proc.devRef .tc main_v66)
      = fun i => lit 0x3FB504F3#32 * Scalar.select (FloatOps.cmpf (F := Ideal) (φ := .f32) .oeq (max (u i) (-(u i))) (lit 0x3F800000#32))
          (u i * lit 0x7F800000#32) (q i * u i) * σ (rowCol i))
    (by repeat (first | exact IsSeq.nil | exact IsSeq.last | apply IsSeq.cons)) (by simp) (by rfl)
    (by simp only [List.Forall]; and_intros; all_goals exact ⟨_, rfl, rfl, by decide⟩) ?_).mono ?_
  · after_results_simp
    try simp only [TRef.ofBuf_toBuf]
    rw [eq, eu1, eσ]
    exact ends_run u q σ
  rintro W ⟨s2, e66⟩
  refine ⟨(s1.trans s2 (by decide)).mono (by decide), ?_⟩
  rw [e66, dq, dp, dx, dw, du]
  rfl

/-- What a run of the reference ends with: its result, entry by entry, its arguments kept, no semaphore counter raised. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v66) = (fun i => deviate (draws i)
            (sigma (m ((c.tc : Thread nD τ).loc main_arg2)) (m ((c.tc : Thread nD τ).loc main_arg0)) (rowCol i)))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
        ∧ r.2.sem = fun _ => 0 := by
  refine θ_run_mono (Line.run defs main (by decide) (by decide) m ρ (Q := fun d W => Same 3 (launchContents m d) W
    ∧ W (Proc.devRef .tc main_v66) = fun i => deviate (draws i)
        (sigma (m ((d.tc : Thread nD τ).loc main_arg2)) (m ((d.tc : Thread nD τ).loc main_arg0)) (rowCol i))) fun d => ?_) ?_
  · unfold main
    exact Line.bind ((draw_run (launchContents m d) _ _ rfl rfl d).mono fun W ⟨hW, hH⟩ =>
      (part1_run W draws _ hH d).mono fun X ⟨hX, hv⟩ => ⟨hW.trans hX le_rfl, hv⟩)
  · intro r hr
    refine ⟨fun c => ?_, sem_eq_zero_of_no_sems rfl _⟩
    obtain ⟨W, ⟨hs, hv⟩, hm⟩ := hr c
    refine ⟨(hm _).trans hv, ?_, ?_, ?_⟩
    · exact (hm _).trans (hs main_arg0 rfl (by decide))
    · exact (hm _).trans (hs main_arg1 rfl (by decide))
    · exact (hm _).trans (hs main_arg2 rfl (by decide))

end Cert.Proof

end
-- ==== Proof.Match.lean ====
/- The kernel's entry and the reference's are one function of the draw's word: the draw is a proper one, and the two polynomials
   may be chosen between before the scheme or at each of its steps. -/
module

public import Idealize.ShloMosaic.Lib.IdealHost
public import proofs.«01_k».proof.Proof.KerPoint
public import proofs.«01_k».proof.Proof.RefRun

@[expose] public section

noncomputable section

namespace Cert.Proof

open Idealize.ShloMosaic

/-- Choosing at each step, where the first polynomial applies. -/
theorem scheme_first (x : EReal) (l : List (BitVec 32 × BitVec 32)) (p : EReal) :
    l.foldl (step 1#1 x) p = (l.map Prod.fst).foldl (fun p d => p * x + lit d) p := by
  induction l generalizing p with
  | nil => rfl
  | cons c l ih =>
    have e : step 1#1 x p c = p * x + lit c.1 := add_comm _ _
    rw [List.foldl_cons, List.map_cons, List.foldl_cons, e, ih]

/-- Choosing at each step, where the second applies. -/
theorem scheme_second (x : EReal) (l : List (BitVec 32 × BitVec 32)) (p : EReal) :
    l.foldl (step 0#1 x) p = (l.map Prod.snd).foldl (fun p d => p * x + lit d) p := by
  induction l generalizing p with
  | nil => rfl
  | cons c l ih =>
    have e : step 0#1 x p c = p * x + lit c.2 := add_comm _ _
    rw [List.foldl_cons, List.map_cons, List.foldl_cons, e, ih]

/-- The whole scheme is the polynomial that applies. -/
theorem horner_eq (s : BitVec 1) (x y : EReal) :
    horner 8 s (Scalar.select s x y) = Scalar.select s (low x) (high y) := by
  have h : s = 1#1 ∨ s = 0#1 := by revert s; decide
  rcases h with rfl | rfl
  · exact scheme_first x coeffs _
  · exact scheme_second y coeffs _

/-- The draw's pattern, as a number: the exponent of one over the word's upper 23 bits. -/
theorem pattern_toNat (b : BitVec 32) : (b >>> 9#32 ||| 1065353216#32).toNat = 8388608 * 127 + b.toNat / 512 := by
  have h : b.toNat / 512 < 2 ^ 23 := by have := b.isLt; omega
  have e : (b >>> 9#32).toNat = b.toNat / 512 := by
    rw [BitVec.ushiftRight_eq', BitVec.toNat_ushiftRight, Nat.shiftRight_eq_div_pow]
    rfl
  rw [BitVec.toNat_or, e, Nat.or_comm]
  exact (Nat.two_pow_add_eq_or_of_lt h 127).symm

/-- What that pattern denotes. -/
theorem pattern_value (b : BitVec 32) :
    lit (b >>> 9#32 ||| 1065353216#32) = ((1 + (b.toNat / 512 : Nat) / 8388608 : ℝ) : EReal) := by
  have hb : b.toNat / 512 < 8388608 := by have := b.isLt; omega
  have e := pattern_toNat b
  generalize b >>> 9#32 ||| 1065353216#32 = w at e
  generalize b.toNat / 512 = k at e hb
  have h1 : w.extractLsb' (8 + 23) 1 = 0#1 := BitVec.eq_of_toNat_eq (by
    rw [BitVec.extractLsb'_toNat, e, Nat.shiftRight_eq_div_pow]; show _ % 2 = 0; omega)
  have h2 : (w.extractLsb' 23 8).toNat = 127 := by
    rw [BitVec.extractLsb'_toNat, e, Nat.shiftRight_eq_div_pow]; omega
  have h3 : (w.extractLsb' 0 23).toNat = k := by
    rw [BitVec.extractLsb'_toNat, e, Nat.shiftRight_eq_div_pow]; omega
  show Ideal.ieee 8 23 w = _
  unfold Ideal.ieee
  simp only [h1, h2, h3]
  rw [if_neg (by decide), if_neg (by decide)]
  refine congrArg _ ?_
  rw [if_neg (by decide)]
  push_cast
  norm_num
  ring

/-- The pattern of one. -/
theorem lit_one : lit 0x3F800000#32 = ((1 : ℝ) : EReal) := Ideal.ofBits_one_f32

/-- The pattern of zero. -/
theorem lit_zero : lit 0#32 = ((0 : ℝ) : EReal) := Ideal.ofBits_zero_f32

/-- The pattern of two. -/
theorem lit_two : lit 0x40000000#32 = ((2 : ℝ) : EReal) := by
  show Ideal.ieee 8 23 0x40000000#32 = _
  simp [Ideal.ieee, -EReal.coe_mul]
  norm_num

/-- The pattern of the interval's lower end. -/
theorem lit_end : lit 0xBF7FFFFF#32 = ((-(16777215 / 16777216) : ℝ) : EReal) := by
  show Ideal.ieee 8 23 0xBF7FFFFF#32 = _
  simp [Ideal.ieee, -EReal.coe_mul, -EReal.coe_neg]
  norm_num

/-- A draw is a number of [0, 1), at a distance from one. -/
theorem unit01_value (b : BitVec 32) : ∃ x : ℝ, unit01 b = (x : EReal) ∧ 0 ≤ x ∧ x ≤ 8388607 / 8388608 := by
  refine ⟨(b.toNat / 512 : Nat) / 8388608, ?_, by positivity, ?_⟩
  · rw [unit01, pattern_value, lit_one, ← EReal.coe_sub]
    exact congrArg _ (by ring)
  · have hb : b.toNat / 512 ≤ 8388607 := by have := b.isLt; omega
    have : ((b.toNat / 512 : Nat) : ℝ) ≤ 8388607 := by exact_mod_cast hb
    linarith

/-- Drawing between zero and one leaves the draw as it is. -/
theorem between_unit (b : BitVec 32) : between (lit 0#32) (lit 0x3F800000#32) (unit01 b) = unit01 b := by
  obtain ⟨x, e, h0, h1⟩ := unit01_value b
  rw [between, e, lit_zero, lit_one, ← EReal.coe_sub, ← EReal.coe_mul, ← EReal.coe_add, sub_zero, mul_one, add_zero]
  exact max_eq_right (EReal.coe_le_coe_iff.mpr h0)

/-- The inverse error function's argument is a number strictly between minus one and one. -/
theorem argument_value (b : BitVec 32) : ∃ u : ℝ, argument (unit01 b) = (u : EReal) ∧ -1 < u ∧ u < 1 := by
  obtain ⟨x, e, h0, h1⟩ := unit01_value b
  refine ⟨x * 2 + -(16777215 / 16777216), ?_, by linarith, by linarith⟩
  rw [argument, e, lit_end, lit_two, ← EReal.coe_mul, ← EReal.coe_add]
  exact max_eq_right (EReal.coe_le_coe_iff.mpr (by linarith))

/-- Of a draw, the inverse error function is its polynomial. -/
theorem erfInv_unit (b : BitVec 32) : erfInv (argument (unit01 b))
    = horner 8 (near (depth (argument (unit01 b)))) (shifted (depth (argument (unit01 b)))) * argument (unit01 b) := by
  obtain ⟨u, e, h0, h1⟩ := argument_value b
  have h : max (argument (unit01 b)) (-(argument (unit01 b))) ≠ lit 0x3F800000#32 := by
    rw [e, lit_one, ← EReal.coe_neg]
    refine ne_of_lt (max_lt ?_ ?_)
    · exact EReal.coe_lt_coe_iff.mpr h1
    · exact EReal.coe_lt_coe_iff.mpr (by linarith)
  generalize argument (unit01 b) = a at h
  have hc : FloatOps.cmpf (F := Ideal) (φ := .f32) .oeq (max a (-a)) (lit 0x3F800000#32) = 0#1 := by
    show BitVec.ofBool (decide (max a (-a) = lit 0x3F800000#32)) = 0#1
    rw [decide_eq_false h]
    rfl
  rw [erfInv, hc]
  rfl

/-- The kernel's entry is the reference's. -/
theorem deviate_eq (b : BitVec 32) (s : EReal) :
    kernelDeviate (unit01 b) s = deviate (between (lit 0#32) (lit 0x3F800000#32) (unit01 b)) s := by
  rw [between_unit, deviate, erfInv_unit, shifted, horner_eq, kernelDeviate, mul_comm (lit 0x3FB504F3#32)]

end Cert.Proof

end
-- ==== Proof.Entry.lean ====
/- The kernel's array is the reference's, entry by entry: the same counter, the same factor. -/
module

public import proofs.«01_k».proof.Proof.KerArray
public import proofs.«01_k».proof.Proof.KerHost
public import proofs.«01_k».proof.Proof.Match

@[expose] public section

noncomputable section

namespace Cert.Proof

open Idealize.ShloMosaic Idealize.ShloMosaic.TcCoe

/-- The kernel numbers the entries in row-major order. -/
theorem number_eq (a : Fin 4096) (p : Fin 200) (e : Fin 64) :
    number (point a).val (row (place a) p) (lane (place a) e) = 12800 * a.val + 64 * p.val + e.val := by
  have ha := a.isLt
  have he := e.isLt
  show a.val / 16 * 204800 + (a.val % 16 % 8 * 200 + p.val) * 64 + (e.val + 64 * (a.val % 16 / 8))
    + (if 64 ≤ e.val + 64 * (a.val % 16 / 8) then 102336 else 0) = _
  split <;> omega

/-- The reference's counter as a number. -/
theorem count64_toNat (a : Fin 4096) (p : Fin 200) (e : Fin 64) :
    (count64 (ix3 a p e)).toNat = 12800 * a.val + 64 * p.val + e.val := by
  have h : count64 (ix3 a p e) = 12800#64 * BitVec.ofNat 64 a.val + 64#64 * BitVec.ofNat 64 p.val + 1#64 * BitVec.ofNat 64 e.val := rfl
  rw [h, ← BitVec.ofNat_mul, ← BitVec.ofNat_mul, ← BitVec.ofNat_mul, ← BitVec.ofNat_add, ← BitVec.ofNat_add, BitVec.toNat_ofNat]
  have := a.isLt
  have := p.isLt
  have := e.isLt
  omega

/-- The upper word of the reference's counter. -/
theorem upper_word (a : Fin 4096) (p : Fin 200) (e : Fin 64) : BitVec.setWidth 32 (count64 (ix3 a p e) >>> 32#64) = 0#32 := by
  have h := count64_toNat a p e
  refine BitVec.eq_of_toNat_eq ?_
  rw [BitVec.toNat_setWidth, BitVec.ushiftRight_eq', BitVec.toNat_ushiftRight, h, Nat.shiftRight_eq_div_pow]
  have := a.isLt
  have := p.isLt
  have := e.isLt
  have hn : 12800 * a.val + 64 * p.val + e.val < 4294967296 := by omega
  have hd : (12800 * a.val + 64 * p.val + e.val) / 4294967296 = 0 := Nat.div_eq_of_lt hn
  exact congrArg (fun n : Nat => n % 2 ^ 32) hd

/-- Its lower word. -/
theorem lower_word (a : Fin 4096) (p : Fin 200) (e : Fin 64) :
    BitVec.setWidth 32 (count64 (ix3 a p e)) = BitVec.ofNat 32 (12800 * a.val + 64 * p.val + e.val) := by
  refine BitVec.eq_of_toNat_eq ?_
  rw [BitVec.toNat_setWidth, count64_toNat, BitVec.toNat_ofNat]

/-- The kernel's entry is the reference's. -/
theorem kernelEntry_value (X : Factors) (T : (⟨2, ![1000000, 1]⟩ : Shape).Idx → EReal) (c : IVec Rows 32)
    (hX : ∀ (g : Fin 256) (r : Fin 1600) (k : Fin 2) (a : Fin 4096) (p : Fin 200),
      g.val * 3200 + k.val * 1600 + r.val = a.val * 200 + p.val → X (ix3 g r k) = lookup T c (ix2 a p))
    (a : Fin 4096) (p : Fin 200) (e : Fin 64) :
    kernelEntry X a p e = deviate (draws (ix3 a p e)) (sigma T c (ix2 a p)) := by
  have h := hX (point a) (row (place a) p) (half (place a)) a p (by
    show a.val / 16 * 3200 + a.val % 16 / 8 * 1600 + (a.val % 16 % 8 * 200 + p.val) = a.val * 200 + p.val
    omega)
  rw [kernelEntry, h, number_eq, draws, upper_word, lower_word]
  exact deviate_eq _ _

/-- The kernel's array is the reference's. -/
theorem kernelArray_value (X : Factors) (T : (⟨2, ![1000000, 1]⟩ : Shape).Idx → EReal) (c : IVec Rows 32)
    (hX : ∀ (g : Fin 256) (r : Fin 1600) (k : Fin 2) (a : Fin 4096) (p : Fin 200),
      g.val * 3200 + k.val * 1600 + r.val = a.val * 200 + p.val → X (ix3 g r k) = lookup T c (ix2 a p)) :
    kernelArray X = fun i => deviate (draws i) (sigma T c (rowCol i)) := by
  refine funext fun i => ?_
  have h := kernelEntry_value X T c hX (i 0) (i 1) (i 2)
  have ed : draws (ix3 (i 0) (i 1) (i 2)) = draws i :=
    congrArg draws (funext fun b => by match b with | ⟨0, _⟩ => rfl | ⟨1, _⟩ => rfl | ⟨2, _⟩ => rfl)
  exact h.trans (congrArg (fun f => deviate f (sigma T c (rowCol i))) ed)

open Cert.KernelIdeal Cert.KernelIdeal.Gen in
/-- The kernel's result after its run, from the arguments. -/
theorem result_value (m : (ℓ : Loc nD τ sig) → Buf (Elt Ideal) ℓ) (d : Dev nD) (T : S1000000x1.Idx → EReal) (c : IVec S4096x200 32)
    (hT : m ((d : Thread nD τ).loc main_arg2) = T) (hc : m ((d : Thread nD τ).loc main_arg0) = c) :
    (dats m 0 d).arrAt 1 cfg0.N = fun i => deviate (draws i) (sigma T c (rowCol i)) :=
  (final_array m d).trans (kernelArray_value _ T c fun g r k a p h => handed_apply m d T c hT hc g r k a p h)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Entry
public import Idealize.ShloMosaic.Adequacy
public import Idealize.ShloMosaic.Init

@[expose] public section

noncomputable section

namespace Cert.Proof

open Idealize.ShloMosaic Idealize.SL.Sem

/-- The reference runs, keeps its arguments and comes to rest. -/
theorem reference_frame : Cert.quiescent_ReferenceIdeal := fun m g _ =>
  θ_run_mono (reference_run m g) fun _ h => ⟨fun c => (h.1 c).2, h.2⟩

/-- The kernel and the reference end with the same array: the deviates of the numbered draws, scaled by the looked-up factors. -/
theorem same_result : Cert.algebraic_KernelIdeal_ReferenceIdeal := by
  intro m g m' g' _ hagree
  refine ⟨fun c => fun i => deviate (draws i) (sigma (m ((c.tc : Thread _ _).loc Cert.KernelIdeal.main_arg2))
    (m ((c.tc : Thread _ _).loc Cert.KernelIdeal.main_arg0)) (rowCol i)), ?_, ?_⟩
  · exact θ_run_mono (Cert.KernelIdeal.Value.run_blocks m g) fun r h c =>
      ⟨(h c).1.trans (result_value m c _ _ rfl rfl), (h c).2⟩
  · refine θ_run_mono (reference_run m' g') fun r h c => ⟨(h.1 c).1.trans ?_, (h.1 c).2⟩
    rw [(hagree c).1, (hagree c).2.2]
    rfl

/-- Every claim of this directory. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, reference_frame, trivial, same_result⟩

end Cert.Proof

end
